-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v137) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v66) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts),
    quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
-- ==== Up.lean ====
abbrev S3072x1x7168 : Shape := ⟨3, ![3072, 1, 7168]⟩
abbrev S18432x3584 : Shape := ⟨2, ![18432, 3584]⟩
abbrev S18432x224 : Shape := ⟨2, ![18432, 224]⟩
abbrev S3072x7168 : Shape := ⟨2, ![3072, 7168]⟩
abbrev S3072x18432 : Shape := ⟨2, ![3072, 18432]⟩
abbrev S1024x7168 : Shape := ⟨2, ![1024, 7168]⟩
abbrev S256x3584 : Shape := ⟨2, ![256, 3584]⟩
abbrev S256x224 : Shape := ⟨2, ![256, 224]⟩
abbrev S1024x256 : Shape := ⟨2, ![1024, 256]⟩
abbrev S7168x512 : Shape := ⟨2, ![7168, 512]⟩
abbrev S224x512 : Shape := ⟨2, ![224, 512]⟩
abbrev S224x256 : Shape := ⟨2, ![224, 256]⟩
abbrev S256x128 : Shape := ⟨2, ![256, 128]⟩
abbrev S8x256 : Shape := ⟨2, ![8, 256]⟩
abbrev S128x256 : Shape := ⟨2, ![128, 256]⟩
abbrev S64x256 : Shape := ⟨2, ![64, 256]⟩
abbrev S1x256 : Shape := ⟨2, ![1, 256]⟩
abbrev S16x256 : Shape := ⟨2, ![16, 256]⟩
abbrev S256x256 : Shape := ⟨2, ![256, 256]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S3072x1x7168, .bf16⟩
  | .hbm, ⟨1, _⟩ => ⟨S18432x3584, .i8⟩
  | .hbm, ⟨2, _⟩ => ⟨S18432x224, .i16⟩
  | .hbm, ⟨3, _⟩ => ⟨S18432x3584, .i8⟩
  | .hbm, ⟨4, _⟩ => ⟨S18432x224, .i16⟩
  | .hbm, ⟨5, _⟩ => ⟨S3072x7168, .bf16⟩
  | .hbm, ⟨6, _⟩ => ⟨S3072x18432, .bf16⟩
  | .local _ .vmem, ⟨0, _⟩ => ⟨S1024x7168, .bf16⟩
  | .local _ .vmem, ⟨1, _⟩ => ⟨S1024x7168, .bf16⟩
  | .local _ .vmem, ⟨2, _⟩ => ⟨S256x3584, .i8⟩
  | .local _ .vmem, ⟨3, _⟩ => ⟨S256x3584, .i8⟩
  | .local _ .vmem, ⟨4, _⟩ => ⟨S256x224, .i16⟩
  | .local _ .vmem, ⟨5, _⟩ => ⟨S256x224, .i16⟩
  | .local _ .vmem, ⟨6, _⟩ => ⟨S256x3584, .i8⟩
  | .local _ .vmem, ⟨7, _⟩ => ⟨S256x3584, .i8⟩
  | .local _ .vmem, ⟨8, _⟩ => ⟨S256x224, .i16⟩
  | .local _ .vmem, ⟨9, _⟩ => ⟨S256x224, .i16⟩
  | .local _ .vmem, ⟨10, _⟩ => ⟨S1024x256, .bf16⟩
  | .local _ .vmem, ⟨11, _⟩ => ⟨S1024x256, .bf16⟩
  | .local _ .vmem, ⟨12, _⟩ => ⟨S7168x512, .bf16⟩
  | .local _ .vmem, ⟨13, _⟩ => ⟨S224x512, .f32⟩
  | _, _ => ⟨S3072x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![72, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x224 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x224 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S3072x1x7168 : Shape := ⟨3, ![3072, 1, 7168]⟩
abbrev S18432x3584 : Shape := ⟨2, ![18432, 3584]⟩
abbrev S18432x224 : Shape := ⟨2, ![18432, 224]⟩
abbrev S18432x224x16 : Shape := ⟨3, ![18432, 224, 16]⟩
abbrev S_ : Shape := ⟨0, ![]⟩
abbrev S18432x224x1 : Shape := ⟨3, ![18432, 224, 1]⟩
abbrev S3072x1x224x2x16 : Shape := ⟨5, ![3072, 1, 224, 2, 16]⟩
abbrev S3072x1x224x1x16 : Shape := ⟨5, ![3072, 1, 224, 1, 16]⟩
abbrev S3072x1x224x16 : Shape := ⟨4, ![3072, 1, 224, 16]⟩
abbrev S3072x1x18432 : Shape := ⟨3, ![3072, 1, 18432]⟩
abbrev S3072x18432 : Shape := ⟨2, ![3072, 18432]⟩

abbrev nBuf : Space → Nat
  | .hbm => 191
  | .vmem => 0
  | .smem => 0
  | _ => 0

abbrev hbmTy0_0 (i : Nat) : BufTy := match i % 128 with
  | 0 => ⟨S3072x1x7168, .bf16⟩
  | 1 => ⟨S18432x3584, .i8⟩
  | 2 => ⟨S18432x224, .i16⟩
  | 3 => ⟨S18432x3584, .i8⟩
  | 4 => ⟨S18432x224, .i16⟩
  | 5 => ⟨S18432x224x16, .i8⟩
  | 6 => ⟨S18432x224x16, .i32⟩
  | 7 => ⟨S18432x224, .i32⟩
  | 8 => ⟨S_, .i32⟩
  | 9 => ⟨S18432x224, .i32⟩
  | 10 => ⟨S18432x224, .i32⟩
  | 11 => ⟨S_, .i32⟩
  | 12 => ⟨S18432x224, .i32⟩
  | 13 => ⟨S18432x224, .i32⟩
  | 14 => ⟨S_, .i32⟩
  | 15 => ⟨S18432x224, .i32⟩
  | 16 => ⟨S18432x224, .i32⟩
  | 17 => ⟨S_, .i32⟩
  | 18 => ⟨S18432x224, .i32⟩
  | 19 => ⟨S18432x224, .i32⟩
  | 20 => ⟨S18432x224, .f32⟩
  | 21 => ⟨S_, .f32⟩
  | 22 => ⟨S18432x224, .f32⟩
  | 23 => ⟨S18432x224, .f32⟩
  | 24 => ⟨S_, .f32⟩
  | 25 => ⟨S18432x224, .f32⟩
  | 26 => ⟨S18432x224, .f32⟩
  | 27 => ⟨S18432x224, .f32⟩
  | 28 => ⟨S_, .i32⟩
  | 29 => ⟨S18432x224, .i32⟩
  | 30 => ⟨S18432x224, .i1⟩
  | 31 => ⟨S_, .f32⟩
  | 32 => ⟨S18432x224, .f32⟩
  | 33 => ⟨S18432x224, .f32⟩
  | 34 => ⟨S_, .f32⟩
  | 35 => ⟨S18432x224, .f32⟩
  | 36 => ⟨S18432x224, .f32⟩
  | 37 => ⟨S18432x224, .f32⟩
  | 38 => ⟨S18432x224, .f32⟩
  | 39 => ⟨S_, .i32⟩
  | 40 => ⟨S18432x224, .i32⟩
  | 41 => ⟨S18432x224, .i1⟩
  | 42 => ⟨S_, .f32⟩
  | 43 => ⟨S_, .f32⟩
  | 44 => ⟨S18432x224, .f32⟩
  | 45 => ⟨S18432x224, .f32⟩
  | 46 => ⟨S_, .i32⟩
  | 47 => ⟨S18432x224, .i32⟩
  | 48 => ⟨S18432x224, .i1⟩
  | 49 => ⟨S18432x224, .f32⟩
  | 50 => ⟨S18432x224, .f32⟩
  | 51 => ⟨S_, .i32⟩
  | 52 => ⟨S18432x224, .i32⟩
  | 53 => ⟨S18432x224, .i1⟩
  | 54 => ⟨S_, .i32⟩
  | 55 => ⟨S18432x224, .i32⟩
  | 56 => ⟨S18432x224, .i1⟩
  | 57 => ⟨S18432x224, .i1⟩
  | 58 => ⟨S_, .f32⟩
  | 59 => ⟨S_, .f32⟩
  | 60 => ⟨S18432x224, .f32⟩
  | 61 => ⟨S18432x224, .f32⟩
  | 62 => ⟨S_, .i32⟩
  | 63 => ⟨S18432x224x16, .i32⟩
  | 64 => ⟨S18432x224x16, .i32⟩
  | 65 => ⟨S18432x224x16, .f32⟩
  | 66 => ⟨S_, .f32⟩
  | 67 => ⟨S18432x224x16, .f32⟩
  | 68 => ⟨S18432x224x16, .f32⟩
  | 69 => ⟨S18432x224x1, .f32⟩
  | 70 => ⟨S18432x224x16, .f32⟩
  | 71 => ⟨S18432x224x16, .f32⟩
  | 72 => ⟨S18432x224x16, .bf16⟩
  | 73 => ⟨S_, .i32⟩
  | 74 => ⟨S18432x224x16, .i32⟩
  | 75 => ⟨S18432x224x16, .i32⟩
  | 76 => ⟨S18432x224x16, .f32⟩
  | 77 => ⟨S_, .f32⟩
  | 78 => ⟨S18432x224x16, .f32⟩
  | 79 => ⟨S18432x224x16, .f32⟩
  | 80 => ⟨S18432x224x1, .f32⟩
  | 81 => ⟨S18432x224x16, .f32⟩
  | 82 => ⟨S18432x224x16, .f32⟩
  | 83 => ⟨S18432x224x16, .bf16⟩
  | 84 => ⟨S3072x1x224x2x16, .bf16⟩
  | 85 => ⟨S3072x1x224x1x16, .bf16⟩
  | 86 => ⟨S3072x1x224x16, .bf16⟩
  | 87 => ⟨S3072x1x18432, .f32⟩
  | 88 => ⟨S3072x1x224x1x16, .bf16⟩
  | 89 => ⟨S3072x1x224x16, .bf16⟩
  | 90 => ⟨S3072x1x18432, .f32⟩
  | 91 => ⟨S3072x1x18432, .f32⟩
  | 92 => ⟨S18432x224x16, .i8⟩
  | 93 => ⟨S18432x224x16, .i32⟩
  | 94 => ⟨S18432x224, .i32⟩
  | 95 => ⟨S_, .i32⟩
  | 96 => ⟨S18432x224, .i32⟩
  | 97 => ⟨S18432x224, .i32⟩
  | 98 => ⟨S_, .i32⟩
  | 99 => ⟨S18432x224, .i32⟩
  | 100 => ⟨S18432x224, .i32⟩
  | 101 => ⟨S_, .i32⟩
  | 102 => ⟨S18432x224, .i32⟩
  | 103 => ⟨S18432x224, .i32⟩
  | 104 => ⟨S_, .i32⟩
  | 105 => ⟨S18432x224, .i32⟩
  | 106 => ⟨S18432x224, .i32⟩
  | 107 => ⟨S18432x224, .f32⟩
  | 108 => ⟨S_, .f32⟩
  | 109 => ⟨S18432x224, .f32⟩
  | 110 => ⟨S18432x224, .f32⟩
  | 111 => ⟨S_, .f32⟩
  | 112 => ⟨S18432x224, .f32⟩
  | 113 => ⟨S18432x224, .f32⟩
  | 114 => ⟨S18432x224, .f32⟩
  | 115 => ⟨S_, .i32⟩
  | 116 => ⟨S18432x224, .i32⟩
  | 117 => ⟨S18432x224, .i1⟩
  | 118 => ⟨S_, .f32⟩
  | 119 => ⟨S18432x224, .f32⟩
  | 120 => ⟨S18432x224, .f32⟩
  | 121 => ⟨S_, .f32⟩
  | 122 => ⟨S18432x224, .f32⟩
  | 123 => ⟨S18432x224, .f32⟩
  | 124 => ⟨S18432x224, .f32⟩
  | 125 => ⟨S18432x224, .f32⟩
  | 126 => ⟨S_, .i32⟩
  | 127 => ⟨S18432x224, .i32⟩
  | _ => ⟨S3072x1x7168, .bf16⟩

abbrev hbmTy0_1 (i : Nat) : BufTy := match i % 128 with
  | 0 => ⟨S18432x224, .i1⟩
  | 1 => ⟨S_, .f32⟩
  | 2 => ⟨S_, .f32⟩
  | 3 => ⟨S18432x224, .f32⟩
  | 4 => ⟨S18432x224, .f32⟩
  | 5 => ⟨S_, .i32⟩
  | 6 => ⟨S18432x224, .i32⟩
  | 7 => ⟨S18432x224, .i1⟩
  | 8 => ⟨S18432x224, .f32⟩
  | 9 => ⟨S18432x224, .f32⟩
  | 10 => ⟨S_, .i32⟩
  | 11 => ⟨S18432x224, .i32⟩
  | 12 => ⟨S18432x224, .i1⟩
  | 13 => ⟨S_, .i32⟩
  | 14 => ⟨S18432x224, .i32⟩
  | 15 => ⟨S18432x224, .i1⟩
  | 16 => ⟨S18432x224, .i1⟩
  | 17 => ⟨S_, .f32⟩
  | 18 => ⟨S_, .f32⟩
  | 19 => ⟨S18432x224, .f32⟩
  | 20 => ⟨S18432x224, .f32⟩
  | 21 => ⟨S_, .i32⟩
  | 22 => ⟨S18432x224x16, .i32⟩
  | 23 => ⟨S18432x224x16, .i32⟩
  | 24 => ⟨S18432x224x16, .f32⟩
  | 25 => ⟨S_, .f32⟩
  | 26 => ⟨S18432x224x16, .f32⟩
  | 27 => ⟨S18432x224x16, .f32⟩
  | 28 => ⟨S18432x224x1, .f32⟩
  | 29 => ⟨S18432x224x16, .f32⟩
  | 30 => ⟨S18432x224x16, .f32⟩
  | 31 => ⟨S18432x224x16, .bf16⟩
  | 32 => ⟨S_, .i32⟩
  | 33 => ⟨S18432x224x16, .i32⟩
  | 34 => ⟨S18432x224x16, .i32⟩
  | 35 => ⟨S18432x224x16, .f32⟩
  | 36 => ⟨S_, .f32⟩
  | 37 => ⟨S18432x224x16, .f32⟩
  | 38 => ⟨S18432x224x16, .f32⟩
  | 39 => ⟨S18432x224x1, .f32⟩
  | 40 => ⟨S18432x224x16, .f32⟩
  | 41 => ⟨S18432x224x16, .f32⟩
  | 42 => ⟨S18432x224x16, .bf16⟩
  | 43 => ⟨S3072x1x224x2x16, .bf16⟩
  | 44 => ⟨S3072x1x224x1x16, .bf16⟩
  | 45 => ⟨S3072x1x224x16, .bf16⟩
  | 46 => ⟨S3072x1x18432, .f32⟩
  | 47 => ⟨S3072x1x224x1x16, .bf16⟩
  | 48 => ⟨S3072x1x224x16, .bf16⟩
  | 49 => ⟨S3072x1x18432, .f32⟩
  | 50 => ⟨S3072x1x18432, .f32⟩
  | 51 => ⟨S3072x1x18432, .f32⟩
  | 52 => ⟨S3072x1x18432, .f32⟩
  | 53 => ⟨S_, .f32⟩
  | 54 => ⟨S3072x1x18432, .f32⟩
  | 55 => ⟨S3072x1x18432, .f32⟩
  | 56 => ⟨S_, .f32⟩
  | 57 => ⟨S3072x1x18432, .f32⟩
  | 58 => ⟨S3072x1x18432, .f32⟩
  | 59 => ⟨S3072x1x18432, .f32⟩
  | 60 => ⟨S3072x1x18432, .f32⟩
  | 61 => ⟨S3072x1x18432, .bf16⟩
  | 62 => ⟨S3072x18432, .bf16⟩
  | _ => ⟨S3072x1x7168, .bf16⟩

abbrev hbmTy (i : Nat) : BufTy := match i / 128 with
  | 0 => hbmTy0_0 i
  | 1 => hbmTy0_1 i
  | _ => ⟨S3072x1x7168, .bf16⟩

abbrev bufTy : (tb : Table) → Fin (tcTables nBuf tb) → BufTy
  | .hbm, ⟨i, _⟩ => hbmTy i
  | _, _ => ⟨S3072x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_call3_v0 : Ref sig .tc := ⟨.hbm, 59, rfl⟩
abbrev main_call3_v1 : Ref sig .tc := ⟨.hbm, 60, rfl⟩
abbrev main_v37 : Ref sig .tc := ⟨.hbm, 61, rfl⟩
abbrev main_c_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_16 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_17 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_c_19 : Ref sig .tc := ⟨.hbm, 101, rfl⟩
abbrev main_v71 : Ref sig .tc := ⟨.hbm, 102, rfl⟩
abbrev main_v72 : Ref sig .tc := ⟨.hbm, 103, rfl⟩
abbrev main_c_20 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_23 : Ref sig .tc := ⟨.hbm, 115, rfl⟩
abbrev main_v81 : Ref sig .tc := ⟨.hbm, 116, rfl⟩
abbrev main_v82 : Ref sig .tc := ⟨.hbm, 117, rfl⟩
abbrev main_cst_24 : Ref sig .tc := ⟨.hbm, 118, rfl⟩
abbrev main_v83 : Ref sig .tc := ⟨.hbm, 119, rfl⟩
abbrev main_v84 : Ref sig .tc := ⟨.hbm, 120, rfl⟩
abbrev main_cst_25 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_26 : Ref sig .tc := ⟨.hbm, 126, rfl⟩
abbrev main_v89 : Ref sig .tc := ⟨.hbm, 127, rfl⟩
abbrev main_v90 : Ref sig .tc := ⟨.hbm, 128, rfl⟩
abbrev main_cst_27 : Ref sig .tc := ⟨.hbm, 129, rfl⟩
abbrev main_call5_v0 : Ref sig .tc := ⟨.hbm, 130, rfl⟩
abbrev main_call5_v1 : Ref sig .tc := ⟨.hbm, 131, rfl⟩
abbrev main_v91 : Ref sig .tc := ⟨.hbm, 132, rfl⟩
abbrev main_c_28 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_29 : Ref sig .tc := ⟨.hbm, 138, rfl⟩
abbrev main_v96 : Ref sig .tc := ⟨.hbm, 139, rfl⟩
abbrev main_v97 : Ref sig .tc := ⟨.hbm, 140, rfl⟩
abbrev main_c_30 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_31 : Ref sig .tc := ⟨.hbm, 145, rfl⟩
abbrev main_call7_v0 : Ref sig .tc := ⟨.hbm, 146, rfl⟩
abbrev main_call7_v1 : Ref sig .tc := ⟨.hbm, 147, rfl⟩
abbrev main_v101 : Ref sig .tc := ⟨.hbm, 148, rfl⟩
abbrev main_c_32 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_33 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_34 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_35 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_36 : Ref sig .tc := ⟨.hbm, 181, rfl⟩
abbrev main_v130 : Ref sig .tc := ⟨.hbm, 182, rfl⟩
abbrev main_v131 : Ref sig .tc := ⟨.hbm, 183, rfl⟩
abbrev main_cst_37 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== Down.lean ====
abbrev S3072x18432 : Shape := ⟨2, ![3072, 18432]⟩
abbrev S7168x9216 : Shape := ⟨2, ![7168, 9216]⟩
abbrev S7168x576 : Shape := ⟨2, ![7168, 576]⟩
abbrev S3072x7168 : Shape := ⟨2, ![3072, 7168]⟩
abbrev S1024x3072 : Shape := ⟨2, ![1024, 3072]⟩
abbrev S512x1536 : Shape := ⟨2, ![512, 1536]⟩
abbrev S512x576 : Shape := ⟨2, ![512, 576]⟩
abbrev S1024x512 : Shape := ⟨2, ![1024, 512]⟩
abbrev S6x3072x512 : Shape := ⟨3, ![6, 3072, 512]⟩
abbrev S576x512 : Shape := ⟨2, ![576, 512]⟩
abbrev S512x128 : Shape := ⟨2, ![512, 128]⟩
abbrev S8x512 : Shape := ⟨2, ![8, 512]⟩
abbrev S128x512 : Shape := ⟨2, ![128, 512]⟩
abbrev S64x512 : Shape := ⟨2, ![64, 512]⟩
abbrev S1x512 : Shape := ⟨2, ![1, 512]⟩
abbrev S16x512 : Shape := ⟨2, ![16, 512]⟩
abbrev S256x512 : Shape := ⟨2, ![256, 512]⟩
abbrev S1x256x512 : Shape := ⟨3, ![1, 256, 512]⟩
abbrev S1x3072x512 : Shape := ⟨3, ![1, 3072, 512]⟩
abbrev S3072x512 : Shape := ⟨2, ![3072, 512]⟩

abbrev nBuf : Space → Nat
  | .hbm => 4
  | .vmem => 11
  | .smem => 0
  | _ => 0

abbrev bufTy : (tb : Table) → Fin (tcTables nBuf tb) → BufTy
  | .hbm, ⟨0, _⟩ => ⟨S3072x18432, .bf16⟩
  | .hbm, ⟨1, _⟩ => ⟨S7168x9216, .i8⟩
  | .hbm, ⟨2, _⟩ => ⟨S7168x576, .i16⟩
  | .hbm, ⟨3, _⟩ => ⟨S3072x7168, .bf16⟩
  | .local _ .vmem, ⟨0, _⟩ => ⟨S1024x3072, .bf16⟩
  | .local _ .vmem, ⟨1, _⟩ => ⟨S1024x3072, .bf16⟩
  | .local _ .vmem, ⟨2, _⟩ => ⟨S512x1536, .i8⟩
  | .local _ .vmem, ⟨3, _⟩ => ⟨S512x1536, .i8⟩
  | .local _ .vmem, ⟨4, _⟩ => ⟨S512x576, .i16⟩
  | .local _ .vmem, ⟨5, _⟩ => ⟨S512x576, .i16⟩
  | .local _ .vmem, ⟨6, _⟩ => ⟨S1024x512, .bf16⟩
  | .local _ .vmem, ⟨7, _⟩ => ⟨S1024x512, .bf16⟩
  | .local _ .vmem, ⟨8, _⟩ => ⟨S6x3072x512, .bf16⟩
  | .local _ .vmem, ⟨9, _⟩ => ⟨S576x512, .f32⟩
  | .local _ .vmem, ⟨10, _⟩ => ⟨S1024x512, .f32⟩
  | _, _ => ⟨S3072x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![14, 3, 6], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg2 : BitVec 32 := BitVec.ofNat 32 (i 2).val
  let c96_i32 : BitVec 32 := 96#32
  let v24 : BitVec 32 := Scalar.muli arg2 c96_i32
  let c0_i32_14 : BitVec 32 := 0#32
  let v25 : BitVec 32 := Scalar.addi v24 c0_i32_14
  v25
def k0_off1 (i : grid0.Coords) (c0_i32_14 : BitVec 32) : Fin 2 → Nat :=
  let arg2 : BitVec 32 := BitVec.ofNat 32 (i 2).val
  let c96_i32 : BitVec 32 := 96#32
  let v24 : BitVec 32 := Scalar.muli arg2 c96_i32
  let v25 : BitVec 32 := Scalar.addi v24 c0_i32_14
  let v26 : BitVec 32 := v25
  let v28 : Index := Scalar.indexCast v26
  let c0_17 : Index := 0#32
  ![v28.toNat, 0]
def k0_off2 (i : grid0.Coords) : Fin 3 → Nat :=
  let arg2 : BitVec 32 := BitVec.ofNat 32 (i 2).val
  let v138 : Index := Scalar.indexCast arg2
  let c0_22 : Index := 0#32
  let c0_23 : Index := 0#32
  ![v138.toNat, 0, 0]
def k0_mult2 (i : grid0.Coords) : BitVec 32 :=
  let arg2 : BitVec 32 := BitVec.ofNat 32 (i 2).val
  let c96_i32_24 : BitVec 32 := 96#32
  let v142 : BitVec 32 := Scalar.muli arg2 c96_i32_24
  let c8_i32 : BitVec 32 := 8#32
  let v143 : BitVec 32 := Scalar.addi v142 c8_i32
  v143
def k0_off3 (i : grid0.Coords) : Fin 3 → Nat :=
  let arg2 : BitVec 32 := BitVec.ofNat 32 (i 2).val
  let v256 : Index := Scalar.indexCast arg2
  let c256 : Index := 256#32
  let c0_34 : Index := 0#32
  ![v256.toNat, 256, 0]
def k0_mult3 (i : grid0.Coords) : BitVec 32 :=
  let arg2 : BitVec 32 := BitVec.ofNat 32 (i 2).val
  let c96_i32_35 : BitVec 32 := 96#32
  let v260 : BitVec 32 := Scalar.muli arg2 c96_i32_35
  let c16_i32 : BitVec 32 := 16#32
  let v261 : BitVec 32 := Scalar.addi v260 c16_i32
  v261
def k0_off4 (i : grid0.Coords) : Fin 3 → Nat :=
  let arg2 : BitVec 32 := BitVec.ofNat 32 (i 2).val
  let v374 : Index := Scalar.indexCast arg2
  let c512 : Index := 512#32
  let c0_46 : Index := 0#32
  ![v374.toNat, 512, 0]
def k0_mult4 (i : grid0.Coords) : BitVec 32 :=
  let arg2 : BitVec 32 := BitVec.ofNat 32 (i 2).val
  let c96_i32_47 : BitVec 32 := 96#32
  let v378 : BitVec 32 := Scalar.muli arg2 c96_i32_47
  let c24_i32 : BitVec 32 := 24#32
  let v379 : BitVec 32 := Scalar.addi v378 c24_i32
  v379
def k0_off5 (i : grid0.Coords) : Fin 3 → Nat :=
  let arg2 : BitVec 32 := BitVec.ofNat 32 (i 2).val
  let v492 : Index := Scalar.indexCast arg2
  let c768 : Index := 768#32
  let c0_57 : Index := 0#32
  ![v492.toNat, 768, 0]
def k0_mult5 (i : grid0.Coords) : BitVec 32 :=
  let arg2 : BitVec 32 := BitVec.ofNat 32 (i 2).val
  let c96_i32_58 : BitVec 32 := 96#32
  let v496 : BitVec 32 := Scalar.muli arg2 c96_i32_58
  let c32_i32 : BitVec 32 := 32#32
  let v497 : BitVec 32 := Scalar.addi v496 c32_i32
  v497
def k0_off6 (i : grid0.Coords) : Fin 3 → Nat :=
  let arg2 : BitVec 32 := BitVec.ofNat 32 (i 2).val
  let v610 : Index := Scalar.indexCast arg2
  let c1024 : Index := 1024#32
  let c0_69 : Index := 0#32
  ![v610.toNat, 1024, 0]
def k0_mult6 (i : grid0.Coords) : BitVec 32 :=
  let arg2 : BitVec 32 := BitVec.ofNat 32 (i 2).val
  let c96_i32_70 : BitVec 32 := 96#32
  let v614 : BitVec 32 := Scalar.muli arg2 c96_i32_70
  let c40_i32 : BitVec 32 := 40#32
  let v615 : BitVec 32 := Scalar.addi v614 c40_i32
  v615
def k0_off7 (i : grid0.Coords) : Fin 3 → Nat :=
  let arg2 : BitVec 32 := BitVec.ofNat 32 (i 2).val
  let v728 : Index := Scalar.indexCast arg2
  let c1280 : Index := 1280#32
  let c0_80 : Index := 0#32
  ![v728.toNat, 1280, 0]
def k0_mult7 (i : grid0.Coords) : BitVec 32 :=
  let arg2 : BitVec 32 := BitVec.ofNat 32 (i 2).val
  let c96_i32_81 : BitVec 32 := 96#32
  let v732 : BitVec 32 := Scalar.muli arg2 c96_i32_81
  let c48_i32 : BitVec 32 := 48#32
  let v733 : BitVec 32 := Scalar.addi v732 c48_i32
  v733
def k0_off8 (i : grid0.Coords) : Fin 3 → Nat :=
  let arg2 : BitVec 32 := BitVec.ofNat 32 (i 2).val
  let v846 : Index := Scalar.indexCast arg2
  let c1536 : Index := 1536#32
  let c0_92 : Index := 0#32
  ![v846.toNat, 1536, 0]
def k0_mult8 (i : grid0.Coords) : BitVec 32 :=
  let arg2 : BitVec 32 := BitVec.ofNat 32 (i 2).val
  let c96_i32_93 : BitVec 32 := 96#32
  let v850 : BitVec 32 := Scalar.muli arg2 c96_i32_93
  let c56_i32 : BitVec 32 := 56#32
  let v851 : BitVec 32 := Scalar.addi v850 c56_i32
  v851
def k0_off9 (i : grid0.Coords) : Fin 3 → Nat :=
  let arg2 : BitVec 32 := BitVec.ofNat 32 (i 2).val
  let v964 : Index := Scalar.indexCast arg2
  let c1792 : Index := 1792#32
  let c0_103 : Index := 0#32
  ![v964.toNat, 1792, 0]
def k0_mult9 (i : grid0.Coords) : BitVec 32 :=
  let arg2 : BitVec 32 := BitVec.ofNat 32 (i 2).val
  let c96_i32_104 : BitVec 32 := 96#32
  let v968 : BitVec 32 := Scalar.muli arg2 c96_i32_104
  let c64_i32 : BitVec 32 := 64#32
  let v969 : BitVec 32 := Scalar.addi v968 c64_i32
  v969
def k0_off10 (i : grid0.Coords) : Fin 3 → Nat :=
  let arg2 : BitVec 32 := BitVec.ofNat 32 (i 2).val
  let v1082 : Index := Scalar.indexCast arg2
  let c2048 : Index := 2048#32
  let c0_115 : Index := 0#32
  ![v1082.toNat, 2048, 0]
def k0_mult10 (i : grid0.Coords) : BitVec 32 :=
  let arg2 : BitVec 32 := BitVec.ofNat 32 (i 2).val
  let c96_i32_116 : BitVec 32 := 96#32
  let v1086 : BitVec 32 := Scalar.muli arg2 c96_i32_116
  let c72_i32 : BitVec 32 := 72#32
  let v1087 : BitVec 32 := Scalar.addi v1086 c72_i32
  v1087
def k0_off11 (i : grid0.Coords) : Fin 3 → Nat :=
  let arg2 : BitVec 32 := BitVec.ofNat 32 (i 2).val
  let v1200 : Index := Scalar.indexCast arg2
  let c2304 : Index := 2304#32
  let c0_126 : Index := 0#32
  ![v1200.toNat, 2304, 0]
def k0_mult11 (i : grid0.Coords) : BitVec 32 :=
  let arg2 : BitVec 32 := BitVec.ofNat 32 (i 2).val
  let c96_i32_127 : BitVec 32 := 96#32
  let v1204 : BitVec 32 := Scalar.muli arg2 c96_i32_127
  let c80_i32 : BitVec 32 := 80#32
  let v1205 : BitVec 32 := Scalar.addi v1204 c80_i32
  v1205
def k0_off12 (i : grid0.Coords) : Fin 3 → Nat :=
  let arg2 : BitVec 32 := BitVec.ofNat 32 (i 2).val
  let v1318 : Index := Scalar.indexCast arg2
  let c2560 : Index := 2560#32
  let c0_138 : Index := 0#32
  ![v1318.toNat, 2560, 0]
def k0_mult12 (i : grid0.Coords) : BitVec 32 :=
  let arg2 : BitVec 32 := BitVec.ofNat 32 (i 2).val
  let c96_i32_139 : BitVec 32 := 96#32
  let v1322 : BitVec 32 := Scalar.muli arg2 c96_i32_139
  let c88_i32 : BitVec 32 := 88#32
  let v1323 : BitVec 32 := Scalar.addi v1322 c88_i32
  v1323
def k0_off13 (i : grid0.Coords) : Fin 3 → Nat :=
  let arg2 : BitVec 32 := BitVec.ofNat 32 (i 2).val
  let v1436 : Index := Scalar.indexCast arg2
  let c2816 : Index := 2816#32
  let c0_149 : Index := 0#32
  ![v1436.toNat, 2816, 0]
def k0_off14 (i : grid0.Coords) : Fin 3 → Nat :=
  let arg2 : BitVec 32 := BitVec.ofNat 32 (i 2).val
  let v13 : Index := Scalar.indexCast arg2
  let c0_9 : Index := 0#32
  let c0_10 : Index := 0#32
  ![v13.toNat, 0, 0]
def k0_cond4 (i : grid0.Coords) : BitVec 1 :=
  let arg2 : BitVec 32 := BitVec.ofNat 32 (i 2).val
  let c5_i32 : BitVec 32 := 5#32
  let v21 : BitVec 1 := Scalar.cmpi .eq arg2 c5_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c5_i32 : BitVec 32 := 5#32
  let v1 : BitVec 32 := Scalar.select v0 arg2 c5_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x576 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S3072x18432 : Shape := ⟨2, ![3072, 18432]⟩
abbrev S7168x9216 : Shape := ⟨2, ![7168, 9216]⟩
abbrev S7168x576 : Shape := ⟨2, ![7168, 576]⟩
abbrev S3072x1x18432 : Shape := ⟨3, ![3072, 1, 18432]⟩
abbrev S7168x576x16 : Shape := ⟨3, ![7168, 576, 16]⟩
abbrev S_ : Shape := ⟨0, ![]⟩
abbrev S7168x576x1 : Shape := ⟨3, ![7168, 576, 1]⟩
abbrev S3072x1x576x2x16 : Shape := ⟨5, ![3072, 1, 576, 2, 16]⟩
abbrev S3072x1x576x1x16 : Shape := ⟨5, ![3072, 1, 576, 1, 16]⟩
abbrev S3072x1x576x16 : Shape := ⟨4, ![3072, 1, 576, 16]⟩
abbrev S3072x1x7168 : Shape := ⟨3, ![3072, 1, 7168]⟩
abbrev S3072x7168 : Shape := ⟨2, ![3072, 7168]⟩

abbrev nBuf : Space → Nat
  | .hbm => 93
  | .vmem => 0
  | .smem => 0
  | _ => 0

abbrev bufTy : (tb : Table) → Fin (tcTables nBuf tb) → BufTy
  | .hbm, ⟨0, _⟩ => ⟨S3072x18432, .bf16⟩
  | .hbm, ⟨1, _⟩ => ⟨S7168x9216, .i8⟩
  | .hbm, ⟨2, _⟩ => ⟨S7168x576, .i16⟩
  | .hbm, ⟨3, _⟩ => ⟨S3072x1x18432, .bf16⟩
  | .hbm, ⟨4, _⟩ => ⟨S7168x576x16, .i8⟩
  | .hbm, ⟨5, _⟩ => ⟨S7168x576x16, .i32⟩
  | .hbm, ⟨6, _⟩ => ⟨S7168x576, .i32⟩
  | .hbm, ⟨7, _⟩ => ⟨S_, .i32⟩
  | .hbm, ⟨8, _⟩ => ⟨S7168x576, .i32⟩
  | .hbm, ⟨9, _⟩ => ⟨S7168x576, .i32⟩
  | .hbm, ⟨10, _⟩ => ⟨S_, .i32⟩
  | .hbm, ⟨11, _⟩ => ⟨S7168x576, .i32⟩
  | .hbm, ⟨12, _⟩ => ⟨S7168x576, .i32⟩
  | .hbm, ⟨13, _⟩ => ⟨S_, .i32⟩
  | .hbm, ⟨14, _⟩ => ⟨S7168x576, .i32⟩
  | .hbm, ⟨15, _⟩ => ⟨S7168x576, .i32⟩
  | .hbm, ⟨16, _⟩ => ⟨S_, .i32⟩
  | .hbm, ⟨17, _⟩ => ⟨S7168x576, .i32⟩
  | .hbm, ⟨18, _⟩ => ⟨S7168x576, .i32⟩
  | .hbm, ⟨19, _⟩ => ⟨S7168x576, .f32⟩
  | .hbm, ⟨20, _⟩ => ⟨S_, .f32⟩
  | .hbm, ⟨21, _⟩ => ⟨S7168x576, .f32⟩
  | .hbm, ⟨22, _⟩ => ⟨S7168x576, .f32⟩
  | .hbm, ⟨23, _⟩ => ⟨S_, .f32⟩
  | .hbm, ⟨24, _⟩ => ⟨S7168x576, .f32⟩
  | .hbm, ⟨25, _⟩ => ⟨S7168x576, .f32⟩
  | .hbm, ⟨26, _⟩ => ⟨S7168x576, .f32⟩
  | .hbm, ⟨27, _⟩ => ⟨S_, .i32⟩
  | .hbm, ⟨28, _⟩ => ⟨S7168x576, .i32⟩
  | .hbm, ⟨29, _⟩ => ⟨S7168x576, .i1⟩
  | .hbm, ⟨30, _⟩ => ⟨S_, .f32⟩
  | .hbm, ⟨31, _⟩ => ⟨S7168x576, .f32⟩
  | .hbm, ⟨32, _⟩ => ⟨S7168x576, .f32⟩
  | .hbm, ⟨33, _⟩ => ⟨S_, .f32⟩
  | .hbm, ⟨34, _⟩ => ⟨S7168x576, .f32⟩
  | .hbm, ⟨35, _⟩ => ⟨S7168x576, .f32⟩
  | .hbm, ⟨36, _⟩ => ⟨S7168x576, .f32⟩
  | .hbm, ⟨37, _⟩ => ⟨S7168x576, .f32⟩
  | .hbm, ⟨38, _⟩ => ⟨S_, .i32⟩
  | .hbm, ⟨39, _⟩ => ⟨S7168x576, .i32⟩
  | .hbm, ⟨40, _⟩ => ⟨S7168x576, .i1⟩
  | .hbm, ⟨41, _⟩ => ⟨S_, .f32⟩
  | .hbm, ⟨42, _⟩ => ⟨S_, .f32⟩
  | .hbm, ⟨43, _⟩ => ⟨S7168x576, .f32⟩
  | .hbm, ⟨44, _⟩ => ⟨S7168x576, .f32⟩
  | .hbm, ⟨45, _⟩ => ⟨S_, .i32⟩
  | .hbm, ⟨46, _⟩ => ⟨S7168x576, .i32⟩
  | .hbm, ⟨47, _⟩ => ⟨S7168x576, .i1⟩
  | .hbm, ⟨48, _⟩ => ⟨S7168x576, .f32⟩
  | .hbm, ⟨49, _⟩ => ⟨S7168x576, .f32⟩
  | .hbm, ⟨50, _⟩ => ⟨S_, .i32⟩
  | .hbm, ⟨51, _⟩ => ⟨S7168x576, .i32⟩
  | .hbm, ⟨52, _⟩ => ⟨S7168x576, .i1⟩
  | .hbm, ⟨53, _⟩ => ⟨S_, .i32⟩
  | .hbm, ⟨54, _⟩ => ⟨S7168x576, .i32⟩
  | .hbm, ⟨55, _⟩ => ⟨S7168x576, .i1⟩
  | .hbm, ⟨56, _⟩ => ⟨S7168x576, .i1⟩
  | .hbm, ⟨57, _⟩ => ⟨S_, .f32⟩
  | .hbm, ⟨58, _⟩ => ⟨S_, .f32⟩
  | .hbm, ⟨59, _⟩ => ⟨S7168x576, .f32⟩
  | .hbm, ⟨60, _⟩ => ⟨S7168x576, .f32⟩
  | .hbm, ⟨61, _⟩ => ⟨S_, .i32⟩
  | .hbm, ⟨62, _⟩ => ⟨S7168x576x16, .i32⟩
  | .hbm, ⟨63, _⟩ => ⟨S7168x576x16, .i32⟩
  | .hbm, ⟨64, _⟩ => ⟨S7168x576x16, .f32⟩
  | .hbm, ⟨65, _⟩ => ⟨S_, .f32⟩
  | .hbm, ⟨66, _⟩ => ⟨S7168x576x16, .f32⟩
  | .hbm, ⟨67, _⟩ => ⟨S7168x576x16, .f32⟩
  | .hbm, ⟨68, _⟩ => ⟨S7168x576x1, .f32⟩
  | .hbm, ⟨69, _⟩ => ⟨S7168x576x16, .f32⟩
  | .hbm, ⟨70, _⟩ => ⟨S7168x576x16, .f32⟩
  | .hbm, ⟨71, _⟩ => ⟨S7168x576x16, .bf16⟩
  | .hbm, ⟨72, _⟩ => ⟨S_, .i32⟩
  | .hbm, ⟨73, _⟩ => ⟨S7168x576x16, .i32⟩
  | .hbm, ⟨74, _⟩ => ⟨S7168x576x16, .i32⟩
  | .hbm, ⟨75, _⟩ => ⟨S7168x576x16, .f32⟩
  | .hbm, ⟨76, _⟩ => ⟨S_, .f32⟩
  | .hbm, ⟨77, _⟩ => ⟨S7168x576x16, .f32⟩
  | .hbm, ⟨78, _⟩ => ⟨S7168x576x16, .f32⟩
  | .hbm, ⟨79, _⟩ => ⟨S7168x576x1, .f32⟩
  | .hbm, ⟨80, _⟩ => ⟨S7168x576x16, .f32⟩
  | .hbm, ⟨81, _⟩ => ⟨S7168x576x16, .f32⟩
  | .hbm, ⟨82, _⟩ => ⟨S7168x576x16, .bf16⟩
  | .hbm, ⟨83, _⟩ => ⟨S3072x1x576x2x16, .bf16⟩
  | .hbm, ⟨84, _⟩ => ⟨S3072x1x576x1x16, .bf16⟩
  | .hbm, ⟨85, _⟩ => ⟨S3072x1x576x16, .bf16⟩
  | .hbm, ⟨86, _⟩ => ⟨S3072x1x7168, .f32⟩
  | .hbm, ⟨87, _⟩ => ⟨S3072x1x576x1x16, .bf16⟩
  | .hbm, ⟨88, _⟩ => ⟨S3072x1x576x16, .bf16⟩
  | .hbm, ⟨89, _⟩ => ⟨S3072x1x7168, .f32⟩
  | .hbm, ⟨90, _⟩ => ⟨S3072x1x7168, .f32⟩
  | .hbm, ⟨91, _⟩ => ⟨S3072x1x7168, .bf16⟩
  | .hbm, ⟨92, _⟩ => ⟨S3072x7168, .bf16⟩
  | _, _ => ⟨S3072x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_c_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_c_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_14 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_15 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Proof.Swiglu.Tile.lean ====
/- One tile of dequantised weights, over any float: what the kernels write into a weight scratch from a block of codes
   and a block of scales. A tile has 256 weight rows (the contraction) and `R` columns; column `r` reads row `r` of the
   codes, and weight row `k = 32 g + 16 c + j` reads byte `16 g + j` (its low half for `c = 0`, its high half for `c = 1`)
   and the scale `g`. -/
module

public import Idealize.ShloMosaic.Lib.Pipeline.Value
public import Idealize.ShloMosaic.Lib.BitcastPair
public import Idealize.ShloMosaic.Lib.Pointwise.Index

@[expose] public section

set_option maxRecDepth 16384

noncomputable section

namespace Cert.Swiglu

open Idealize.ShloMosaic

variable {F : FTy → Type} [FloatOps F]

/-- The shape facts a tile of `R` columns uses. -/
structure TileFacts (R : ℕ) : Prop where
  tr : (⟨2, ![R, 128]⟩ : Shape).Transposes [1, 0] ⟨2, ![128, R]⟩
  dn : (⟨2, ![128, R]⟩ : Shape).Bitcasts 16 ⟨2, ![64, R]⟩ 32
  up : (⟨2, ![64, R]⟩ : Shape).Bitcasts 32 ⟨2, ![128, R]⟩ 16
  sl : ∀ g : Fin 8, (⟨2, ![128, R]⟩ : Shape).Slices ![16 * g.val, 0] ⟨2, ![16, R]⟩
  sc : ∀ g : Fin 8, (⟨2, ![8, R]⟩ : Shape).Slices ![g.val, 0] ⟨2, ![1, R]⟩
  br : (⟨2, ![1, R]⟩ : Shape).Broadcasts ⟨2, ![16, R]⟩
  cc : Shape.Concatenates (List.replicate 16 ⟨2, ![16, R]⟩) ⟨2, ![256, R]⟩ 0

variable {R : ℕ} (H : TileFacts R)

/-- The codes, transposed, two 16-bit rows in one word. -/
def words (q : IVec ⟨2, ![R, 128]⟩ 8) : IVec ⟨2, ![64, R]⟩ 32 :=
  bitcast ⟨2, ![64, R]⟩ 32 (transpose ⟨2, ![128, R]⟩ [1, 0] (extui 16 q (by decide)) H.tr) H.dn

/-- The bf16 numbers `128 + code` for the low halves of words, less 136. -/
def field (x : IVec ⟨2, ![64, R]⟩ 32) : FVec F ⟨2, ![128, R]⟩ .bf16 :=
  subf (bitcastToFloat .bf16 (bitcast ⟨2, ![128, R]⟩ 16
      (ori (andi x (broadcast ⟨2, ![64, R]⟩ 983055#32)) (broadcast ⟨2, ![64, R]⟩ 1124090624#32)) H.up))
    (broadcast ⟨2, ![128, R]⟩ (Scalar.ofBits .bf16 0x4308#16))

/-- The codes of the low halves (`c = 0`) or the high halves, less 8. -/
def codes (q : IVec ⟨2, ![R, 128]⟩ 8) : ℕ → FVec F ⟨2, ![128, R]⟩ .bf16
  | 0 => field H (words H q)
  | _ + 1 => field H (shrsi (words H q) (broadcast ⟨2, ![64, R]⟩ 4#32))

/-- Sixteen weight rows: group `n / 2`, half `n % 2`. -/
def part (q : IVec ⟨2, ![R, 128]⟩ 8) (s : FVec F ⟨2, ![8, R]⟩ .f32) (n : Fin 16) : FVec F ⟨2, ![16, R]⟩ .bf16 :=
  truncf .bf16 (mulf
    (extf .f32 (extractStridedSlice ⟨2, ![16, R]⟩ ![16 * (n.val / 2), 0] (codes H q (n.val % 2)) (H.sl ⟨n.val / 2, by omega⟩))
      (by decide))
    (broadcastTo ⟨2, ![16, R]⟩ (extractStridedSlice ⟨2, ![1, R]⟩ ![n.val / 2, 0] s (H.sc ⟨n.val / 2, by omega⟩)) H.br))
    (by decide)

/-- THE TILE. -/
def tile (q : IVec ⟨2, ![R, 128]⟩ 8) (s : FVec F ⟨2, ![8, R]⟩ .f32) : FVec F ⟨2, ![256, R]⟩ .bf16 :=
  concatenate ⟨2, ![256, R]⟩ 0
    (List.ofFn fun n : Fin 16 => (⟨⟨2, ![16, R]⟩, part H q s n⟩ : (s : Shape) × (s.Idx → F .bf16))) H.cc

end Cert.Swiglu

end
-- ==== Proof.Swiglu.Weights.lean ====
/- What the first point of a weight block leaves in the weight scratch: 56 tiles, the 28 of the gate weights in the left
   half of the columns, the 28 of the up weights in the right half, tile `b` at weight rows `256 b …`. -/
module

public import proofs.«01_k».proof.Proof.Gen.UpIdeal.Value
public import proofs.«01_k».proof.Proof.Swiglu.Tile
public import Idealize.ShloMosaic.Lib.WholeRead

@[expose] public section

set_option maxRecDepth 16384

noncomputable section

namespace Cert.UpIdeal.Gen

open Idealize.ShloMosaic Idealize.ShloMosaic.TcCoe Idealize.ShloMosaic.Tactic
open Cert.Swiglu

variable {F : FTy → Type} [FloatOps F]

theorem idx_lt0 {n0 n1 : ℕ} (j : (⟨2, ![n0, n1]⟩ : Shape).Idx) : (j 0).val < n0 := (j 0).isLt
theorem idx_lt1 {n0 n1 : ℕ} (j : (⟨2, ![n0, n1]⟩ : Shape).Idx) : (j 1).val < n1 := (j 1).isLt

theorem tileFacts : TileFacts 256 where
  tr := transposes_S256x128_p1_0_S128x256
  dn := bitcasts_S128x256_w16_S64x256_w32
  up := bitcasts_S64x256_w32_S128x256_w16
  sl := by decide
  sc := by decide
  br := broadcasts_S1x256_S16x256
  cc := concatenates_S16x256_S16x256_S16x256_S16x256_S16x256_S16x256_S16x256_S16x256_S16x256_S16x256_S16x256_S16x256_S16x256_S16x256_S16x256_S16x256_S256x256_d0

theorem inbW (h : Fin 2) (b : Fin 28) : ∀ a : Fin 2, (![256 * b.val, 256 * h.val] : Fin 2 → ℕ) a + (![256, 256] : Fin 2 → ℕ) a ≤ S7168x512.size a := by
  intro a; fin_cases a
  · show 256 * b.val + 256 ≤ 7168; omega
  · show 256 * h.val + 256 ≤ 512; omega

theorem inbQ (b : Fin 28) : ∀ a : Fin 2, (![0, 128 * b.val] : Fin 2 → ℕ) a + (![256, 128] : Fin 2 → ℕ) a ≤ S256x3584.size a := by
  intro a; fin_cases a
  · show 0 + 256 ≤ 256; omega
  · show 128 * b.val + 128 ≤ 3584; omega

theorem inbS (h : Fin 2) (b : Fin 28) : ∀ a : Fin 2, (![8 * b.val, 256 * h.val] : Fin 2 → ℕ) a + (![8, 256] : Fin 2 → ℕ) a ≤ S224x512.size a := by
  intro a; fin_cases a
  · show 8 * b.val + 8 ≤ 224; omega
  · show 256 * h.val + 256 ≤ 512; omega

section Pieces

variable (c : Dev nD) (arg3 : Memref sig .tc .vmem S256x3584 .i8) (harg3 : arg3.IsWhole) (arg4 : Memref sig .tc .vmem S256x224 .i16) (harg4 : arg4.IsWhole)
  (arg5 : Memref sig .tc .vmem S256x3584 .i8) (harg5 : arg5.IsWhole) (arg6 : Memref sig .tc .vmem S256x224 .i16) (harg6 : arg6.IsWhole)
  (arg9 : Memref sig .tc .vmem S224x512 .f32)
  (x1 : Vec F S256x3584 .i8) (x2 : Vec F S256x224 .i16) (x3 : Vec F S256x3584 .i8) (x4 : Vec F S256x224 .i16)

/-- The block of codes tile `b` reads. -/
def qBlock (arg : Memref sig .tc .vmem S256x3584 .i8) (harg : arg.IsWhole) (x : Vec F S256x3584 .i8) (b : Fin 28) :
    Vec F S256x128 .i8 :=
  View.readAt (Elt F) arg.view (Rect.unit (s := S256x3584) ![0, 128 * b.val] S256x128.size (inbQ b)).toLoadRect (harg.unread x)

/-- The block of scales tile `b` of half `h` reads. -/
def sBlock (h : Fin 2) (L : List (View.Piece (Elt F) S224x512 .f32)) (b : Fin 28) : Vec F S8x256 .f32 :=
  arg9.view.readCov L (Rect.unit (s := S224x512) ![8 * b.val, 256 * h.val] S8x256.size (inbS h b)).toLoadRect

/-- Tile `b` in half `h` of the columns, from codes read out of one window and scales read out of the scale scratch. -/
def piece (h : Fin 2) (arg : Memref sig .tc .vmem S256x3584 .i8) (harg : arg.IsWhole) (x : Vec F S256x3584 .i8)
    (L : List (View.Piece (Elt F) S224x512 .f32)) (b : Fin 28) : View.Piece (Elt F) S7168x512 .bf16 :=
  ⟨Rect.unit (s := S7168x512) ![256 * b.val, 256 * h.val] S256x256.size (inbW h b),
    shapeCast S256x256 (tile (F := F) tileFacts (qBlock arg harg x b) (sBlock arg9 h L b)) shapeCasts_S256x256_S256x256⟩

/-- The first `n` tiles of a half, last first, over what was stored before. -/
def pieces (P : Fin 28 → View.Piece (Elt F) S7168x512 .bf16) (L : List (View.Piece (Elt F) S7168x512 .bf16)) :
    (n : ℕ) → n ≤ 28 → List (View.Piece (Elt F) S7168x512 .bf16)
  | 0, _ => L
  | n + 1, h => P ⟨n, h⟩ :: pieces P L n (Nat.le_of_succ_le h)

theorem pieces_eq : kernelRun0_A.sl.HS0_56 c arg3 harg3 arg4 harg4 arg5 harg5 arg6 harg6 arg9 x1 x2 x3 x4
    = pieces (piece (arg9 := arg9) 1 arg5 harg5 x3 (kernelRun0_A.sl.HS1_2 c arg4 harg4 arg6 harg6 x2 x4))
        (pieces (piece (arg9 := arg9) 0 arg3 harg3 x1 (kernelRun0_A.sl.HS1_1 c arg4 harg4 x2)) [] 28 le_rfl) 28 le_rfl := by
  sl_kernel_rfl

theorem mem_pieces (P : Fin 28 → View.Piece (Elt F) S7168x512 .bf16) (L : List (View.Piece (Elt F) S7168x512 .bf16))
    (p : View.Piece (Elt F) S7168x512 .bf16) : ∀ (n : ℕ) (h : n ≤ 28), p ∈ pieces P L n h → (∃ b, p = P b) ∨ p ∈ L
  | 0, _, hp => Or.inr hp
  | n + 1, h, hp => by
    rcases List.mem_cons.1 hp with rfl | hp
    · exact Or.inl ⟨_, rfl⟩
    · exact mem_pieces P L p n _ hp

end Pieces

/-! ## The weights as one function of the windows -/

/-- The codes of tile `b`. -/
def qOf (x : Vec F S256x3584 .i8) (b : Fin 28) : Vec F S256x128 .i8 :=
  fun j => x (ix2 (j 0) ⟨128 * b.val + (j 1).val, by have := idx_lt1 j; omega⟩)

/-- The scales of tile `b`. -/
def sOf (w : Vec F S256x224 .i16) (b : Fin 28) : Vec F S8x256 .f32 :=
  fun j => k0_pay4 w (ix2 ⟨8 * b.val + (j 0).val, by have := idx_lt0 j; omega⟩ (j 1))

/-- Half a weight block: 28 tiles one under another. -/
def half (x : Vec F S256x3584 .i8) (w : Vec F S256x224 .i16) (k : Fin 7168) (r : Fin 256) : Elt F .bf16 :=
  tile (F := F) tileFacts (qOf x ⟨k.val / 256, by omega⟩) (sOf w ⟨k.val / 256, by omega⟩) (ix2 ⟨k.val % 256, by omega⟩ r)

/-- THE WEIGHT BLOCK of a point: the gate half, then the up half. -/
def W (x1 : Vec F S256x3584 .i8) (x2 : Vec F S256x224 .i16) (x3 : Vec F S256x3584 .i8) (x4 : Vec F S256x224 .i16) :
    Vec F S7168x512 .bf16 := fun y =>
  if (y 1).val < 256 then half x1 x2 (y 0) ⟨(y 1).val % 256, Nat.mod_lt _ (by decide)⟩
  else half x3 x4 (y 0) ⟨(y 1).val % 256, Nat.mod_lt _ (by decide)⟩

theorem qBlock_eq (arg : Memref sig .tc .vmem S256x3584 .i8) (harg : arg.IsWhole) (x : Vec F S256x3584 .i8) (b : Fin 28) :
    qBlock arg harg x b = qOf x b := by
  funext j
  unfold qBlock qOf
  rw [harg.readAt_unread]
  refine congrArg x (funext fun a => Fin.ext ?_)
  fin_cases a
  · show 0 + 1 * (j 0).val = (j 0).val; omega
  · show 128 * b.val + 1 * (j 1).val = 128 * b.val + (j 1).val; omega

section Scales

variable (c : Dev nD) (arg4 : Memref sig .tc .vmem S256x224 .i16) (harg4 : arg4.IsWhole)
  (arg6 : Memref sig .tc .vmem S256x224 .i16) (harg6 : arg6.IsWhole)
  (arg9 : Memref sig .tc .vmem S224x512 .f32) (x2 : Vec F S256x224 .i16) (x4 : Vec F S256x224 .i16)

theorem scales_load (arg : Memref sig .tc .vmem S256x224 .i16) (harg : arg.IsWhole) (x : Vec F S256x224 .i16) :
    View.readAt (Elt F) arg.view (Rect.unit (s := S256x224) ![0, 0] S256x224.size inb_S256x224_S256x224_0_0).toLoadRect (harg.unread x) = x := by
  rw [View.readAt_eq_ld, harg.read_unread, View.ld_unit_zero (by funext a; fin_cases a <;> rfl)]

theorem HS1_1_eq : kernelRun0_A.sl.HS1_1 c arg4 harg4 x2
    = [⟨Rect.unit (s := S224x512) ![0, 0] S224x256.size inb_S224x512_S224x256_0_0, k0_pay4 x2⟩] := by
  have e : kernelRun0_A.sl.HS1_1 c arg4 harg4 x2
      = [⟨Rect.unit (s := S224x512) ![0, 0] S224x256.size inb_S224x512_S224x256_0_0, k0_pay4
        (View.readAt (Elt F) arg4.view (Rect.unit (s := S256x224) ![0, 0] S256x224.size inb_S256x224_S256x224_0_0).toLoadRect (harg4.unread x2))⟩] := by
    sl_kernel_rfl
  rw [e, scales_load]

theorem HS1_2_eq : kernelRun0_A.sl.HS1_2 c arg4 harg4 arg6 harg6 x2 x4
    = ⟨Rect.unit (s := S224x512) ![0, 256] S224x256.size inb_S224x512_S224x256_0_256, k0_pay4 x4⟩ :: kernelRun0_A.sl.HS1_1 c arg4 harg4 x2 := by
  have e : kernelRun0_A.sl.HS1_2 c arg4 harg4 arg6 harg6 x2 x4
      = ⟨Rect.unit (s := S224x512) ![0, 256] S224x256.size inb_S224x512_S224x256_0_256, k0_pay4
        (View.readAt (Elt F) arg6.view (Rect.unit (s := S256x224) ![0, 0] S256x224.size inb_S256x224_S256x224_0_0).toLoadRect (harg6.unread x4))⟩
        :: kernelRun0_A.sl.HS1_1 c arg4 harg4 x2 := by
    sl_kernel_rfl
  rw [e, scales_load]

theorem sBlock0_eq (b : Fin 28) : sBlock arg9 0 (kernelRun0_A.sl.HS1_1 c arg4 harg4 x2) b = sOf x2 b := by
  rw [HS1_1_eq]
  unfold sBlock
  rw [View.readCov_eq_canon']
  funext j
  have e : (Rect.unit (s := S224x512) ![8 * b.val, 256 * (0 : Fin 2).val] S8x256.size (inbS 0 b)).toLoadRect.idx j
      = (Rect.unit (s := S224x512) ![0, 0] S224x256.size inb_S224x512_S224x256_0_0).emb
        (ix2 ⟨8 * b.val + (j 0).val, by have := idx_lt0 j; omega⟩ (j 1)) := by
    funext a
    apply Fin.ext
    fin_cases a
    · show 8 * b.val + 1 * (j 0).val = 0 + 1 * (8 * b.val + (j 0).val); omega
    · show 256 * 0 + 1 * (j 1).val = 0 + 1 * (j 1).val; omega
  rw [e, View.canon_cons_emb]
  rfl

theorem sBlock1_eq (b : Fin 28) : sBlock arg9 1 (kernelRun0_A.sl.HS1_2 c arg4 harg4 arg6 harg6 x2 x4) b = sOf x4 b := by
  rw [HS1_2_eq]
  unfold sBlock
  rw [View.readCov_eq_canon']
  funext j
  have e : (Rect.unit (s := S224x512) ![8 * b.val, 256 * (1 : Fin 2).val] S8x256.size (inbS 1 b)).toLoadRect.idx j
      = (Rect.unit (s := S224x512) ![0, 256] S224x256.size inb_S224x512_S224x256_0_256).emb
        (ix2 ⟨8 * b.val + (j 0).val, by have := idx_lt0 j; omega⟩ (j 1)) := by
    funext a
    apply Fin.ext
    fin_cases a
    · show 8 * b.val + 1 * (j 0).val = 0 + 1 * (8 * b.val + (j 0).val); omega
    · show 256 * 1 + 1 * (j 1).val = 256 + 1 * (j 1).val; omega
  rw [e, View.canon_cons_emb]
  rfl

end Scales

section Sum

variable (c : Dev nD) (arg3 : Memref sig .tc .vmem S256x3584 .i8) (harg3 : arg3.IsWhole) (arg4 : Memref sig .tc .vmem S256x224 .i16) (harg4 : arg4.IsWhole)
  (arg5 : Memref sig .tc .vmem S256x3584 .i8) (harg5 : arg5.IsWhole) (arg6 : Memref sig .tc .vmem S256x224 .i16) (harg6 : arg6.IsWhole)
  (arg9 : Memref sig .tc .vmem S224x512 .f32)
  (x1 : Vec F S256x3584 .i8) (x2 : Vec F S256x224 .i16) (x3 : Vec F S256x3584 .i8) (x4 : Vec F S256x224 .i16)

/-- Tile `b`'s values are the half block's at its rows. -/
theorem tile_half (x : Vec F S256x3584 .i8) (w : Vec F S256x224 .i16) (b : Fin 28) (j : S256x256.Idx) (k : Fin 7168) (r : Fin 256)
    (hk : k.val = 256 * b.val + (j 0).val) (hr : r.val = (j 1).val) :
    tile (F := F) tileFacts (qOf x b) (sOf w b) j = half x w k r := by
  have h0 := idx_lt0 j
  have e : (⟨k.val / 256, by omega⟩ : Fin 28) = b := Fin.ext (by show k.val / 256 = b.val; omega)
  unfold half
  rw [e]
  congr 1
  funext a
  fin_cases a
  · exact Fin.ext (by show (j 0).val = k.val % 256; omega)
  · exact Fin.ext (by show (j 1).val = r.val; omega)

/-- Every stored piece is a part of `W`. -/
theorem pieces_W : ∀ p ∈ kernelRun0_A.sl.HS0_56 c arg3 harg3 arg4 harg4 arg5 harg5 arg6 harg6 arg9 x1 x2 x3 x4,
    ∀ x : p.1.shape.Idx, p.2 x = W x1 x2 x3 x4 (p.1.emb x) := by
  intro p hp
  rw [pieces_eq] at hp
  rcases mem_pieces _ _ _ _ _ hp with ⟨b, rfl⟩ | hp
  · intro j
    show shapeCast S256x256 (tile (F := F) tileFacts (qBlock arg5 harg5 x3 b) (sBlock arg9 1 (kernelRun0_A.sl.HS1_2 c arg4 harg4 arg6 harg6 x2 x4) b)) _ j = _
    have h0 : (j 0).val < 256 := (j 0).isLt
    have h1 : (j 1).val < 256 := (j 1).isLt
    have e1 : ((Rect.unit (s := S7168x512) ![256 * b.val, 256 * (1 : Fin 2).val] S256x256.size (inbW 1 b)).emb j 1).val = 256 + (j 1).val := by
      show 256 * 1 + 1 * (j 1).val = _; omega
    rw [shapeCast_self, qBlock_eq, sBlock1_eq]
    unfold W
    rw [if_neg (by show ¬ ((Rect.unit (s := S7168x512) ![256 * b.val, 256 * (1 : Fin 2).val] S256x256.size (inbW 1 b)).emb j 1).val < 256; omega)]
    refine tile_half _ _ _ _ _ _ ?_ ?_
    · show 256 * b.val + 1 * (j 0).val = _; omega
    · show ((Rect.unit (s := S7168x512) ![256 * b.val, 256 * (1 : Fin 2).val] S256x256.size (inbW 1 b)).emb j 1).val % 256 = _; omega
  · rcases mem_pieces _ _ _ _ _ hp with ⟨b, rfl⟩ | hp
    · intro j
      show shapeCast S256x256 (tile (F := F) tileFacts (qBlock arg3 harg3 x1 b) (sBlock arg9 0 (kernelRun0_A.sl.HS1_1 c arg4 harg4 x2) b)) _ j = _
      have h0 : (j 0).val < 256 := (j 0).isLt
      have h1 : (j 1).val < 256 := (j 1).isLt
      have e1 : ((Rect.unit (s := S7168x512) ![256 * b.val, 256 * (0 : Fin 2).val] S256x256.size (inbW 0 b)).emb j 1).val = (j 1).val := by
        show 256 * 0 + 1 * (j 1).val = _; omega
      rw [shapeCast_self, qBlock_eq, sBlock0_eq]
      unfold W
      rw [if_pos (by show ((Rect.unit (s := S7168x512) ![256 * b.val, 256 * (0 : Fin 2).val] S256x256.size (inbW 0 b)).emb j 1).val < 256; omega)]
      refine tile_half _ _ _ _ _ _ ?_ ?_
      · show 256 * b.val + 1 * (j 0).val = _; omega
      · show ((Rect.unit (s := S7168x512) ![256 * b.val, 256 * (0 : Fin 2).val] S256x256.size (inbW 0 b)).emb j 1).val % 256 = _; omega
    · exact absurd hp (List.not_mem_nil)

end Sum

/-! ## What the two cases leave -/

section Cases

variable (c : Dev nD) (i : grid0.Coords) (arg2 : Memref sig .tc .vmem S1024x7168 .bf16) (harg2 : arg2.IsWhole) (arg3 : Memref sig .tc .vmem S256x3584 .i8) (harg3 : arg3.IsWhole) (arg4 : Memref sig .tc .vmem S256x224 .i16) (harg4 : arg4.IsWhole) (arg5 : Memref sig .tc .vmem S256x3584 .i8) (harg5 : arg5.IsWhole) (arg6 : Memref sig .tc .vmem S256x224 .i16) (harg6 : arg6.IsWhole) (arg7 : Memref sig .tc .vmem S1024x256 .bf16) (harg7 : arg7.IsWhole) (arg8 : Memref sig .tc .vmem S7168x512 .bf16) (harg8 : arg8.IsWhole) (arg9 : Memref sig .tc .vmem S224x512 .f32) (harg9 : arg9.IsWhole)
    (x0 : Vec F S1024x7168 .bf16) (x1 : Vec F S256x3584 .i8) (x2 : Vec F S256x224 .i16) (x3 : Vec F S256x3584 .i8) (x4 : Vec F S256x224 .i16)

theorem canon_W (hcov : ∀ y, ∃ p ∈ kernelRun0_A.sl.HS0_56 c arg3 harg3 arg4 harg4 arg5 harg5 arg6 harg6 arg9 x1 x2 x3 x4, y ∈ p.1.set) : View.canon (kernelRun0_A.sl.HS0_56 c arg3 harg3 arg4 harg4 arg5 harg5 arg6 harg6 arg9 x1 x2 x3 x4) = W x1 x2 x3 x4 :=
  funext fun y => View.canon_apply_of_pieces (W x1 x2 x3 x4) _ (pieces_W c arg3 harg3 arg4 harg4 arg5 harg5 arg6 harg6 arg9 x1 x2 x3 x4) y (hcov y)

/-- The first point of a block leaves the weights in the scratch. -/
theorem sout0_A_0_eq (hc0 : cond0_0 i) :
    sout0_A_0 c i arg2 harg2 arg3 harg3 arg4 harg4 arg5 harg5 arg6 harg6 arg7 harg7 arg8 harg8 arg9 harg9 hc0 x0 x1 x2 x3 x4 = W x1 x2 x3 x4 := by
  unfold sout0_A_0
  rw [View.read_writes_junk_eq_canon]
  exact canon_W c arg3 harg3 arg4 harg4 arg5 harg5 arg6 harg6 arg9 x1 x2 x3 x4
    (scover0_A_0 c i arg2 harg2 arg3 harg3 arg4 harg4 arg5 harg5 arg6 harg6 arg7 harg7 arg8 harg8 arg9 harg9 hc0 x0 x1 x2 x3 x4)

theorem x_load : View.readAt (Elt F) arg2.view (Rect.unit (s := S1024x7168) ![0, 0] S1024x7168.size inb_S1024x7168_S1024x7168_0_0).toLoadRect (harg2.unread x0) = x0 := by
  rw [View.readAt_eq_ld, harg2.read_unread, View.ld_unit_zero (by funext a; fin_cases a <;> rfl)]

theorem w_load (L : List (View.Piece (Elt F) S7168x512 .bf16)) :
    arg8.view.readCov L (Rect.unit (s := S7168x512) ![0, 0] S7168x512.size inb_S7168x512_S7168x512_0_0).toLoadRect = View.canon L := by
  rw [View.readCov_eq_canon']
  funext j
  refine congrArg _ (funext fun a => Fin.ext ?_)
  fin_cases a
  · show 0 + 1 * (j 0).val = (j 0).val; omega
  · show 0 + 1 * (j 1).val = (j 1).val; omega

/-- It writes the product with those weights. -/
theorem out0_A_5_eq (hc0 : cond0_0 i) :
    out0_A_5 c i arg2 harg2 arg3 harg3 arg4 harg4 arg5 harg5 arg6 harg6 arg7 harg7 arg8 harg8 arg9 harg9 hc0 x0 x1 x2 x3 x4 = k0_pay3 x0 (W x1 x2 x3 x4) := by
  unfold out0_A_5
  rw [View.read_writes_junk_eq_canon]
  have e : (kernelRun0_A c i arg2 harg2 arg3 harg3 arg4 harg4 arg5 harg5 arg6 harg6 arg7 harg7 arg8 harg8 arg9 harg9 hc0 x0 x1 x2 x3 x4).1
      = [⟨Rect.unit (s := S1024x256) ![0, 0] S1024x256.size inb_S1024x256_S1024x256_0_0,
          k0_pay3 (View.readAt (Elt F) arg2.view (Rect.unit (s := S1024x7168) ![0, 0] S1024x7168.size inb_S1024x7168_S1024x7168_0_0).toLoadRect (harg2.unread x0))
            (arg8.view.readCov (kernelRun0_A.sl.HS0_56 c arg3 harg3 arg4 harg4 arg5 harg5 arg6 harg6 arg9 x1 x2 x3 x4)
              (Rect.unit (s := S7168x512) ![0, 0] S7168x512.size inb_S7168x512_S7168x512_0_0).toLoadRect)⟩] := by sl_kernel_rfl
  rw [e, View.canon_unit_zero (by funext a; fin_cases a <;> rfl), x_load, w_load,
    canon_W c arg3 harg3 arg4 harg4 arg5 harg5 arg6 harg6 arg9 x1 x2 x3 x4
    (scover0_A_0 c i arg2 harg2 arg3 harg3 arg4 harg4 arg5 harg5 arg6 harg6 arg7 harg7 arg8 harg8 arg9 harg9 hc0 x0 x1 x2 x3 x4)]

/-- A later point of the block writes the product with the weights the scratch holds. -/
theorem out0_B_5_eq (hc0 : ¬cond0_0 i) (xs0 : Vec F S7168x512 .bf16) :
    out0_B_5 c i arg2 harg2 arg3 harg3 arg4 harg4 arg5 harg5 arg6 harg6 arg7 harg7 arg8 harg8 arg9 harg9 hc0 x0 x1 x2 x3 x4 xs0 = k0_pay3 x0 xs0 := by
  unfold out0_B_5
  rw [View.read_writes_junk_eq_canon]
  have e : (kernelRun0_B c i arg2 harg2 arg3 harg3 arg4 harg4 arg5 harg5 arg6 harg6 arg7 harg7 arg8 harg8 arg9 harg9 hc0 x0 x1 x2 x3 x4 xs0).1
      = [⟨Rect.unit (s := S1024x256) ![0, 0] S1024x256.size inb_S1024x256_S1024x256_0_0,
          k0_pay3 (View.readAt (Elt F) arg2.view (Rect.unit (s := S1024x7168) ![0, 0] S1024x7168.size inb_S1024x7168_S1024x7168_0_0).toLoadRect (harg2.unread x0))
            (View.readAt (Elt F) arg8.view (Rect.unit (s := S7168x512) ![0, 0] S7168x512.size inb_S7168x512_S7168x512_0_0).toLoadRect (harg8.unread xs0))⟩] := by sl_kernel_rfl
  rw [e, View.canon_unit_zero (by funext a; fin_cases a <;> rfl), x_load, View.readAt_eq_ld, harg8.read_unread, View.ld_unit_zero (by funext a; fin_cases a <;> rfl)]

end Cases

end Cert.UpIdeal.Gen

end
-- ==== Proof.Swiglu.Out.lean ====
/- What the array `h` holds after the run of the gate and up products: the block at rows `1024 a …` and columns `256 b …`
   is `k0_pay3` of the `a`-th block of rows of `x` and the `b`-th weight block. The three points of a weight block share
   one weight scratch, filled at the first. -/
module

public import proofs.«01_k».proof.Proof.Swiglu.Weights

@[expose] public section

set_option maxRecDepth 16384

noncomputable section

namespace Cert.UpIdeal.Value

open Idealize.ShloMosaic Idealize.ShloMosaic.TcCoe Idealize.ShloMosaic.Tactic
open Cert.UpIdeal.Gen Cert.Swiglu

variable {F : FTy → Type} [FloatOps F]

/-! ## Blocks of rows -/

/-- Rows `1024 a …` of `x`. -/
def xRows (X : Vec F S3072x7168 .bf16) (a : Fin 3) : Vec F S1024x7168 .bf16 :=
  fun j => X (ix2 ⟨1024 * a.val + (j 0).val, by have := idx_lt0 j; omega⟩ (j 1))

/-- Rows `256 b …` of the codes. -/
def qRows (X : Vec F S18432x3584 .i8) (b : Fin 72) : Vec F S256x3584 .i8 :=
  fun j => X (ix2 ⟨256 * b.val + (j 0).val, by have := idx_lt0 j; omega⟩ (j 1))

/-- Rows `256 b …` of the scales. -/
def sRows (X : Vec F S18432x224 .i16) (b : Fin 72) : Vec F S256x224 .i16 :=
  fun j => X (ix2 ⟨256 * b.val + (j 0).val, by have := idx_lt0 j; omega⟩ (j 1))

variable (m : (ℓ : Loc nD τ sig) → Buf (Elt F) ℓ)

theorem idx_in : ∀ t : Fin cfg0.N, (win0_0.index t (0 : Fin 2) = t.val % 3 ∧ win0_0.index t (1 : Fin 2) = 0)
    ∧ (win0_1.index t (0 : Fin 2) = t.val / 3 ∧ win0_1.index t (1 : Fin 2) = 0)
    ∧ (win0_2.index t (0 : Fin 2) = t.val / 3 ∧ win0_2.index t (1 : Fin 2) = 0)
    ∧ (win0_3.index t (0 : Fin 2) = t.val / 3 ∧ win0_3.index t (1 : Fin 2) = 0)
    ∧ (win0_4.index t (0 : Fin 2) = t.val / 3 ∧ win0_4.index t (1 : Fin 2) = 0) :=
  (by decide +kernel : ∀ t : Fin grid0.N, _)

theorem pt_lt (t : Fin cfg0.N) : t.val < 216 := lt_of_lt_of_eq t.isLt N_0

theorem iblk0_eq (c : Dev nD) (t : Fin cfg0.N) :
    iblk m c 0 t = xRows (V m c main_v0) ⟨t.val % 3, Nat.mod_lt _ (by decide)⟩ := by
  obtain ⟨⟨e0, e1⟩, -⟩ := idx_in t
  funext y
  refine congrArg (V m c main_v0) (funext fun a => Fin.ext ?_)
  fin_cases a
  · show win0_0.index t (0 : Fin 2) * 1024 + 1 * (y 0).val = 1024 * (t.val % 3) + (y 0).val; omega
  · show win0_0.index t (1 : Fin 2) * 7168 + 1 * (y 1).val = (y 1).val; omega

theorem iblk1_eq (c : Dev nD) (t : Fin cfg0.N) :
    iblk m c 1 t = qRows (m ((c : Thread nD τ).loc main_arg1)) ⟨t.val / 3, by have := pt_lt t; omega⟩ := by
  obtain ⟨-, ⟨e0, e1⟩, -⟩ := idx_in t
  rw [← V_main_arg1 m c]
  funext y
  refine congrArg (V m c main_arg1) (funext fun a => Fin.ext ?_)
  fin_cases a
  · show win0_1.index t (0 : Fin 2) * 256 + 1 * (y 0).val = 256 * (t.val / 3) + (y 0).val; omega
  · show win0_1.index t (1 : Fin 2) * 3584 + 1 * (y 1).val = (y 1).val; omega

theorem iblk2_eq (c : Dev nD) (t : Fin cfg0.N) :
    iblk m c 2 t = sRows (m ((c : Thread nD τ).loc main_arg2)) ⟨t.val / 3, by have := pt_lt t; omega⟩ := by
  obtain ⟨-, -, ⟨e0, e1⟩, -⟩ := idx_in t
  rw [← V_main_arg2 m c]
  funext y
  refine congrArg (V m c main_arg2) (funext fun a => Fin.ext ?_)
  fin_cases a
  · show win0_2.index t (0 : Fin 2) * 256 + 1 * (y 0).val = 256 * (t.val / 3) + (y 0).val; omega
  · show win0_2.index t (1 : Fin 2) * 224 + 1 * (y 1).val = (y 1).val; omega

theorem iblk3_eq (c : Dev nD) (t : Fin cfg0.N) :
    iblk m c 3 t = qRows (m ((c : Thread nD τ).loc main_arg3)) ⟨t.val / 3, by have := pt_lt t; omega⟩ := by
  obtain ⟨-, -, -, ⟨e0, e1⟩, -⟩ := idx_in t
  rw [← V_main_arg3 m c]
  funext y
  refine congrArg (V m c main_arg3) (funext fun a => Fin.ext ?_)
  fin_cases a
  · show win0_3.index t (0 : Fin 2) * 256 + 1 * (y 0).val = 256 * (t.val / 3) + (y 0).val; omega
  · show win0_3.index t (1 : Fin 2) * 3584 + 1 * (y 1).val = (y 1).val; omega

theorem iblk4_eq (c : Dev nD) (t : Fin cfg0.N) :
    iblk m c 4 t = sRows (m ((c : Thread nD τ).loc main_arg4)) ⟨t.val / 3, by have := pt_lt t; omega⟩ := by
  obtain ⟨-, -, -, -, ⟨e0, e1⟩⟩ := idx_in t
  rw [← V_main_arg4 m c]
  funext y
  refine congrArg (V m c main_arg4) (funext fun a => Fin.ext ?_)
  fin_cases a
  · show win0_4.index t (0 : Fin 2) * 256 + 1 * (y 0).val = 256 * (t.val / 3) + (y 0).val; omega
  · show win0_4.index t (1 : Fin 2) * 224 + 1 * (y 1).val = (y 1).val; omega

/-! ## The carried weights -/

/-- The `b`-th weight block. -/
def Wb (c : Dev nD) (b : Fin 72) : Vec F S7168x512 .bf16 :=
  W (qRows (m ((c : Thread nD τ).loc main_arg1)) b) (sRows (m ((c : Thread nD τ).loc main_arg2)) b)
    (qRows (m ((c : Thread nD τ).loc main_arg3)) b) (sRows (m ((c : Thread nD τ).loc main_arg4)) b)

/-- One point: over a scratch that already holds the block's weights when the point is not the block's first. -/
theorem step (c : Dev nD) (t : Fin cfg0.N) (acc : Vec F S1024x256 .bf16 × Vec F S7168x512 .bf16)
    (hacc : ¬t.val % 3 = 0 → acc.2 = Wb m c ⟨t.val / 3, by have := pt_lt t; omega⟩) :
    stAt0 m c t.val t.isLt acc
      = (k0_pay3 (xRows (V m c main_v0) ⟨t.val % 3, Nat.mod_lt _ (by decide)⟩) (Wb m c ⟨t.val / 3, by have := pt_lt t; omega⟩),
          Wb m c ⟨t.val / 3, by have := pt_lt t; omega⟩) := by
  by_cases h0 : t.val % 3 = 0
  · rw [stAt0_A m c t acc h0, out0_A_5_eq, sout0_A_0_eq]
    rw [iblk0_eq, iblk1_eq, iblk2_eq, iblk3_eq, iblk4_eq]
    rfl
  · rw [stAt0_B m c t acc h0, out0_B_5_eq, iblk0_eq, hacc h0]
    rfl

/-- After point `n` the output block and the scratch hold these. -/
theorem outs_eq (c : Dev nD) : ∀ (n : ℕ) (hn : n < cfg0.N),
    outsAt0 m c n hn
      = (k0_pay3 (xRows (V m c main_v0) ⟨n % 3, Nat.mod_lt _ (by decide)⟩) (Wb m c ⟨n / 3, by have : n < 216 := pt_lt ⟨n, hn⟩; omega⟩),
          Wb m c ⟨n / 3, by have : n < 216 := pt_lt ⟨n, hn⟩; omega⟩)
  | 0, hn => (outsAt0_zero m c hn).trans (step m c ⟨0, hn⟩ _ fun h => absurd rfl h)
  | n + 1, hn => by
    refine (outsAt0_succ m c n hn).trans (step m c ⟨n + 1, hn⟩ _ fun h => ?_)
    rw [outs_eq c n (Nat.lt_of_succ_lt hn)]
    have h' : ¬(n + 1) % 3 = 0 := h
    have e : n / 3 = (n + 1) / 3 := by omega
    exact congrArg (Wb m c) (Fin.ext e)

/-- THE ARRAY `h`, block by block. -/
theorem G5_eq (c : Dev nD) (r : Fin 3072) (n : Fin 18432) :
    G5 m c (ix2 r n) = k0_pay3 (xRows (V m c main_v0) ⟨r.val / 1024, by omega⟩) (Wb m c ⟨n.val / 256, by omega⟩)
      (ix2 ⟨r.val % 1024, Nat.mod_lt _ (by decide)⟩ ⟨n.val % 256, Nat.mod_lt _ (by decide)⟩) := by
  have hp : pt5Of (ix2 r n) = r.val / 1024 + 3 * (n.val / 256) := by
    show 1 * (r.val / 1024 - 0) + 3 * (n.val / 256 - 0) = _; omega
  have hlt : pt5Of (ix2 r n) < cfg0.N := lt_of_lt_of_eq (by rw [hp]; omega) N_0.symm
  unfold G5
  rw [dif_pos hlt, ← outsAt0_sweep m c _ hlt, outs_eq]
  have e1 : (⟨pt5Of (ix2 r n) % 3, Nat.mod_lt _ (by decide)⟩ : Fin 3) = ⟨r.val / 1024, by omega⟩ := Fin.ext (by show pt5Of (ix2 r n) % 3 = r.val / 1024; rw [hp]; omega)
  have e2 : (⟨pt5Of (ix2 r n) / 3, by rw [hp]; omega⟩ : Fin 72) = ⟨n.val / 256, by omega⟩ := Fin.ext (by show pt5Of (ix2 r n) / 3 = n.val / 256; rw [hp]; omega)
  rw [e1, e2]
  refine congrArg _ (funext fun a => ?_)
  match a with
  | ⟨0, _⟩ => rfl
  | ⟨1, _⟩ => rfl

end Cert.UpIdeal.Value

end
-- ==== Proof.Swiglu.TileValue.lean ====
/- What a tile of dequantised weights holds over the extended reals: (code - 8) times scale. -/
module

public import proofs.«01_k».proof.Proof.Swiglu.Tile
public import Idealize.ShloMosaic.Lib.IdealHost

@[expose] public section

set_option maxRecDepth 16384

noncomputable section

namespace Cert.Swiglu

open Idealize.ShloMosaic

/-- The code a byte holds in its low half (`c = 0`) or its high half. -/
def code : ℕ → BitVec 8 → ℕ
  | 0, x => x.toNat % 16
  | _ + 1, x => x.toNat / 16

theorem code_lo (x : BitVec 8) : code 0 x = x.toNat % 16 := rfl
theorem code_hi (x : BitVec 8) : code 1 x = x.toNat / 16 := rfl

/-- The bf16 pattern of `128 + n`. -/
def pat (n : ℕ) : BitVec 16 := 0x4300#16 ||| BitVec.ofNat 16 n

theorem pat_value : ∀ n : Fin 16, Ideal.ofBits .bf16 (pat n.val) = (((128 + n.val : ℕ) : ℝ) : EReal) := by
  intro n
  have a : ∀ n : Fin 16, (((pat n.val).extractLsb' 15 1 == 1#1) = false) ∧ ((pat n.val).extractLsb' 7 8).toNat = 134
      ∧ ((pat n.val).extractLsb' 0 7).toNat = n.val := by decide
  obtain ⟨h1, h2, h3⟩ := a n
  show Ideal.ieee 8 7 (pat n.val) = _
  unfold Ideal.ieee
  simp only [show (8 + 7 : ℕ) = 15 from rfl, h1, h2, h3]
  rw [if_neg (by decide), if_neg (by decide)]
  refine congrArg Real.toEReal ?_
  norm_num

theorem pat_bias : Ideal.ofBits .bf16 0x4308#16 = ((136 : ℝ) : EReal) := by
  have := pat_value 8
  rw [show pat (8 : Fin 16).val = 0x4308#16 from by decide] at this
  rw [this]
  refine congrArg Real.toEReal ?_
  norm_num

/-- A field's number less 136 is the code less 8. -/
theorem pat_sub (n : ℕ) (h : n < 16) : Ideal.ofBits .bf16 (pat n) - Ideal.ofBits .bf16 0x4308#16 = (((n : ℝ) - 8 : ℝ) : EReal) := by
  rw [pat_value ⟨n, h⟩, pat_bias, ← EReal.coe_sub]
  refine congrArg Real.toEReal ?_
  push_cast; ring

/-- The two halves of a word of fields, low halves of the bytes. -/
theorem half_lo (hi lo : BitVec 8) (p : ℕ) (hp : p < 2) :
    (((hi.setWidth 16 ++ lo.setWidth 16 : BitVec 32) &&& 983055#32) ||| 1124090624#32).extractLsb' (16 * p) 16
      = pat (code 0 (if p = 0 then lo else hi)) := by
  have e : ∀ x : BitVec 8, pat (code 0 x) = 0x4300#16 ||| (x.setWidth 16 &&& 15#16) := by
    intro x
    unfold pat
    rw [code_lo]
    congr 1
    apply BitVec.eq_of_toNat_eq
    rw [BitVec.toNat_and, show (15#16).toNat = 2 ^ 4 - 1 from rfl, Nat.and_two_pow_sub_one_eq_mod, BitVec.toNat_ofNat, BitVec.toNat_setWidth]
    have := x.isLt
    omega
  rw [e]
  have hW : ∀ i, (hi.setWidth 16 ++ lo.setWidth 16 : BitVec 32).getLsbD i
      = if i < 16 then (lo.setWidth 16).getLsbD i else (hi.setWidth 16).getLsbD (i - 16) := fun i => BitVec.getLsbD_append
  generalize (hi.setWidth 16 ++ lo.setWidth 16 : BitVec 32) = w at hW ⊢
  obtain rfl | rfl : p = 0 ∨ p = 1 := by omega
  all_goals
    apply BitVec.eq_of_getLsbD_eq
    intro i hi'
    interval_cases i <;> simp [-BitVec.getLsbD_eq_getElem, hW]

/-- High halves of the bytes. -/
theorem half_hi (hi lo : BitVec 8) (p : ℕ) (hp : p < 2) :
    ((((hi.setWidth 16 ++ lo.setWidth 16 : BitVec 32).sshiftRight' 4#32) &&& 983055#32) ||| 1124090624#32).extractLsb' (16 * p) 16
      = pat (code 1 (if p = 0 then lo else hi)) := by
  have e : ∀ x : BitVec 8, pat (code 1 x) = 0x4300#16 ||| ((x.setWidth 16 >>> 4) &&& 15#16) := by
    intro x
    unfold pat
    rw [code_hi]
    congr 1
    apply BitVec.eq_of_toNat_eq
    rw [BitVec.toNat_and, show (15#16).toNat = 2 ^ 4 - 1 from rfl, Nat.and_two_pow_sub_one_eq_mod, BitVec.toNat_ofNat,
      BitVec.toNat_ushiftRight, BitVec.toNat_setWidth, Nat.shiftRight_eq_div_pow]
    have := x.isLt
    omega
  rw [e]
  have hW : ∀ i, (hi.setWidth 16 ++ lo.setWidth 16 : BitVec 32).getLsbD i
      = if i < 16 then (lo.setWidth 16).getLsbD i else (hi.setWidth 16).getLsbD (i - 16) := fun i => BitVec.getLsbD_append
  generalize (hi.setWidth 16 ++ lo.setWidth 16 : BitVec 32) = w at hW ⊢
  obtain rfl | rfl : p = 0 ∨ p = 1 := by omega
  all_goals
    apply BitVec.eq_of_getLsbD_eq
    intro i hi'
    interval_cases i <;> simp [-BitVec.getLsbD_eq_getElem, hW, BitVec.sshiftRight', BitVec.getLsbD_sshiftRight]

variable {R : ℕ} (H : TileFacts R)

theorem row_ix2 {m n : ℕ} (i : Fin m) (r : Fin n) : Shape.row (⟨2, ![m, n]⟩ : Shape) (ix2 i r) = i.val := rfl

theorem words_apply (q : IVec ⟨2, ![R, 128]⟩ 8) (i : Fin 64) (r : Fin R) :
    words H q (ix2 i r) = (q (ix2 r ⟨2 * i.val + 1, by omega⟩)).setWidth 16 ++ (q (ix2 r ⟨2 * i.val, by omega⟩)).setWidth 16 := by
  unfold words
  rw [bitcast_16_32]
  have tr : ∀ y : (⟨2, ![128, R]⟩ : Shape).Idx, transpose ⟨2, ![128, R]⟩ [1, 0] (extui 16 q (by decide)) H.tr y = (q (ix2 (y 1) (y 0))).setWidth 16 := by
    intro y
    exact transpose_apply [1, 0] (extui 16 q (by decide)) H.tr y (ix2 (y 1) (y 0)) (fun b => by fin_cases b <;> rfl)
  rw [tr, tr]
  rfl

theorem field_apply (x : IVec ⟨2, ![64, R]⟩ 32) (k : Fin 128) (r : Fin R) :
    field (F := Ideal) H x (ix2 k r)
      = Ideal.ofBits .bf16 (((x (ix2 ⟨k.val / 2, by omega⟩ r) &&& 983055#32) ||| 1124090624#32).extractLsb' (16 * (k.val % 2)) 16)
        - Ideal.ofBits .bf16 0x4308#16 := by
  show Ideal.ofBits .bf16 (bitcast ⟨2, ![128, R]⟩ 16 _ H.up (ix2 k r)) - Ideal.ofBits .bf16 0x4308#16 = _
  rw [bitcast_32_16]
  have e : ∀ hp, H.up.srcIdx (ix2 k r) (Shape.row (⟨2, ![128, R]⟩ : Shape) (ix2 k r) / 2) hp = ix2 ⟨k.val / 2, by omega⟩ r := by
    intro hp
    funext a
    match a with
    | 0 => rfl
    | 1 => rfl
  rw [e]
  rfl

/-- THE CODES: byte less 8, column by row. -/
theorem codes_apply (q : IVec ⟨2, ![R, 128]⟩ 8) (c : ℕ) (hc : c < 2) (k : Fin 128) (r : Fin R) :
    codes (F := Ideal) H q c (ix2 k r) = (((code c (q (ix2 r k)) : ℝ) - 8 : ℝ) : EReal) := by
  have hk : (if k.val % 2 = 0 then q (ix2 r ⟨2 * (k.val / 2), by omega⟩) else q (ix2 r ⟨2 * (k.val / 2) + 1, by omega⟩)) = q (ix2 r k) := by
    split
    · congr 2; apply Fin.ext; show 2 * (k.val / 2) = k.val; omega
    · congr 2; apply Fin.ext; show 2 * (k.val / 2) + 1 = k.val; omega
  obtain rfl | rfl : c = 0 ∨ c = 1 := by omega
  · show field (F := Ideal) H (words H q) (ix2 k r) = _
    rw [field_apply, words_apply, half_lo _ _ _ (Nat.mod_lt _ (by decide)), hk]
    exact pat_sub _ (by rw [code_lo]; omega)
  · show field (F := Ideal) H (shrsi (words H q) (broadcast ⟨2, ![64, R]⟩ 4#32)) (ix2 k r) = _
    rw [field_apply]
    have e : shrsi (words H q) (broadcast ⟨2, ![64, R]⟩ 4#32) (ix2 ⟨k.val / 2, by omega⟩ r)
        = (words H q (ix2 ⟨k.val / 2, by omega⟩ r)).sshiftRight' 4#32 := rfl
    rw [e, words_apply, half_hi _ _ _ (Nat.mod_lt _ (by decide)), hk]
    refine pat_sub _ ?_
    have := (q (ix2 r k)).isLt
    rw [code_hi]; omega

/-- THE TILE at weight row `k` and column `r`. -/
theorem tile_apply (q : IVec ⟨2, ![R, 128]⟩ 8) (s : FVec Ideal ⟨2, ![8, R]⟩ .f32) (k : Fin 256) (r : Fin R) :
    tile (F := Ideal) H q s (ix2 k r)
      = (((code (k.val / 16 % 2) (q (ix2 r ⟨k.val / 32 * 16 + k.val % 16, by omega⟩)) : ℝ) - 8 : ℝ) : EReal)
        * s (ix2 ⟨k.val / 32, by omega⟩ r) := by
  unfold tile
  rw [concatenate_ofFn_apply (t := ⟨2, ![256, R]⟩) (s₁ := ⟨2, ![16, R]⟩) 0 (part H q s) H.cc rfl 16 rfl (ix2 k r)
    ⟨k.val / 16, by omega⟩ rfl (ix2 ⟨k.val % 16, by omega⟩ r) rfl
    (fun b hb => by fin_cases b; exact absurd rfl hb; rfl)]
  unfold part
  show extractStridedSlice ⟨2, ![16, R]⟩ ![16 * (k.val / 16 / 2), 0] (codes (F := Ideal) H q (k.val / 16 % 2)) (H.sl ⟨k.val / 16 / 2, by omega⟩) (ix2 ⟨k.val % 16, by omega⟩ r)
    * broadcastTo ⟨2, ![16, R]⟩ (extractStridedSlice ⟨2, ![1, R]⟩ ![k.val / 16 / 2, 0] s (H.sc ⟨k.val / 16 / 2, by omega⟩)) H.br (ix2 ⟨k.val % 16, by omega⟩ r) = _
  rw [extractStridedSlice_apply (s := ⟨2, ![128, R]⟩) _ _ _ _ (ix2 ⟨k.val / 32 * 16 + k.val % 16, by omega⟩ r) (fun a => by
      fin_cases a
      · show k.val / 32 * 16 + k.val % 16 = 16 * (k.val / 16 / 2) + k.val % 16; omega
      · show r.val = 0 + r.val; omega),
    codes_apply H q _ (Nat.mod_lt _ (by decide)),
    broadcastTo_apply (s := ⟨2, ![1, R]⟩) _ _ _ (ix2 0 r) (fun a => by
      fin_cases a
      · rfl
      · show r.val = if R = 1 then 0 else r.val
        split
        · have := r.isLt; omega
        · rfl),
    extractStridedSlice_apply (s := ⟨2, ![8, R]⟩) _ _ _ _ (ix2 ⟨k.val / 32, by omega⟩ r) (fun a => by
      fin_cases a
      · show k.val / 32 = k.val / 16 / 2 + 0; omega
      · show r.val = 0 + r.val; omega)]

end Cert.Swiglu

end
-- ==== Proof.Swiglu.F16.lean ====
/- The number a binary16 word denotes, and the two programs' ways to it over the extended reals:
   the kernel rebuilds the f32 word of the same number by shifts, the reference computes
   `(1024 + f) · 2^(e - 25)`. Both are `f16 w`, for every word `w`. -/
module

public import Idealize.ShloMosaic.Lib.IdealHost
public import Idealize.ShloMosaic.Lib.Pipeline.Value
public import Mathlib.Data.Nat.Bitwise

@[expose] public section

set_option maxRecDepth 16384

noncomputable section

namespace Cert.Swiglu

open Idealize.ShloMosaic

/-- The exponent field of a binary16 word. -/
def f16e (w : BitVec 16) : ℕ := w.toNat / 1024 % 32

/-- The fraction field of a binary16 word. -/
def f16f (w : BitVec 16) : ℕ := w.toNat % 1024

/-- The magnitude of a binary16 word that is no NaN. -/
def f16mag (w : BitVec 16) : EReal :=
  if f16e w = 31 then ⊤
  else if f16e w = 0 then (((f16f w : ℝ) * (2 : ℝ) ^ (-24 : ℤ) : ℝ) : EReal)
  else ((((f16f w : ℝ) + 1024) * (2 : ℝ) ^ ((f16e w : ℤ) - 25) : ℝ) : EReal)

/-- The extended real a binary16 word denotes, a NaN `⊥`. -/
def f16 (w : BitVec 16) : EReal :=
  if f16e w = 31 ∧ f16f w ≠ 0 then ⊥ else if 32768 ≤ w.toNat then -f16mag w else f16mag w

/-! ## The kernel's way -/

/-- The word zero extended, as both programs compute it. -/
def wide (w : BitVec 16) : BitVec 32 := IntOp.andi (w.signExtend 32) 65535#32

/-- The sign, moved to bit 31. -/
def kSign (w : BitVec 16) : BitVec 32 := IntOp.shli .vector (IntOp.andi (wide w) 32768#32) 16#32

/-- The word without its sign. -/
def kMag (w : BitVec 16) : BitVec 32 := IntOp.andi (wide w) 32767#32

/-- The f32 word of a normal number, an infinity or a NaN. -/
def kBits (w : BitVec 16) : BitVec 32 :=
  IntOp.ori (IntOp.addi (IntOp.shli .vector (kMag w) 13#32)
    (Scalar.select (IntOp.cmpi .sge (kMag w) 31744#32) 1879048192#32 939524096#32)) (kSign w)

/-- The scale as the kernel decodes it. -/
def kScale (w : BitVec 16) : EReal :=
  Scalar.select (IntOp.cmpi .slt (kMag w) 1024#32)
    (FloatOps.mulf (F := Ideal) (φ := .f32) (FloatOps.sitofp (F := Ideal) .f32 (kMag w))
      (Scalar.select (IntOp.cmpi .ne (kSign w) 0#32) (FloatOps.ofBits (F := Ideal) .f32 0xB3800000#32)
        (FloatOps.ofBits (F := Ideal) .f32 0x33800000#32)))
    (FloatOps.ofBits (F := Ideal) .f32 (kBits w))

theorem wide_toNat (w : BitVec 16) : (wide w).toNat = w.toNat := by
  have hw := w.isLt
  unfold wide IntOp.andi
  rw [BitVec.toNat_and, BitVec.toNat_signExtend]
  rw [show (65535#32).toNat = 2 ^ 16 - 1 from rfl, Nat.and_two_pow_sub_one_eq_mod]
  simp only [BitVec.toNat_setWidth]
  split <;> omega

theorem kMag_toNat (w : BitVec 16) : (kMag w).toNat = w.toNat % 32768 := by
  unfold kMag IntOp.andi
  rw [BitVec.toNat_and, wide_toNat, show (32767#32).toNat = 2 ^ 15 - 1 from rfl, Nat.and_two_pow_sub_one_eq_mod]

theorem and_bit15 (n : ℕ) (h : n < 65536) : n &&& 32768 = if 32768 ≤ n then 32768 else 0 := by
  have e := Nat.and_two_pow n 15
  rw [show 2 ^ 15 = 32768 from rfl, Nat.testBit_eq_decide_div_mod_eq, show 2 ^ 15 = 32768 from rfl] at e
  rw [e]
  by_cases h1 : 32768 ≤ n
  · rw [if_pos h1, decide_eq_true (by omega)]; rfl
  · rw [if_neg h1, decide_eq_false (by omega)]; rfl

theorem or_bit31 (m : ℕ) (c : Prop) [Decidable c] (h : m < 2 ^ 31) :
    m ||| (if c then 2147483648 else 0) = m + (if c then 2147483648 else 0) := by
  by_cases hc : c
  · rw [if_pos hc, Nat.or_comm]
    have := Nat.two_pow_add_eq_or_of_lt h 1
    rw [Nat.mul_one] at this
    rw [show (2147483648 : ℕ) = 2 ^ 31 from rfl, ← this, Nat.add_comm]
  · rw [if_neg hc, Nat.or_zero, Nat.add_zero]

theorem kSign_toNat (w : BitVec 16) : (kSign w).toNat = if 32768 ≤ w.toNat then 2147483648 else 0 := by
  have hw := w.isLt
  unfold kSign IntOp.shli IntOp.andi
  rw [if_pos (by decide), BitVec.shiftLeft_eq', BitVec.toNat_shiftLeft, BitVec.toNat_and, wide_toNat,
    show (32768#32).toNat = 32768 from rfl, and_bit15 _ hw, show (16#32).toNat = 16 from rfl, Nat.shiftLeft_eq]
  split <;> rfl

/-- The bias the kernel adds: 112 exponents, or 224 for infinity and NaN. -/
theorem kBias_toNat (w : BitVec 16) :
    (Scalar.select (IntOp.cmpi .sge (kMag w) 31744#32) 1879048192#32 939524096#32).toNat
      = if f16e w = 31 then 1879048192 else 939524096 := by
  have hm := kMag_toNat w
  have hi : (kMag w).toInt = ((w.toNat % 32768 : ℕ) : ℤ) := by
    rw [BitVec.toInt_eq_toNat_of_lt (by omega), hm]
  have hc : IntOp.cmpi .sge (kMag w) 31744#32 = BitVec.ofBool (decide (f16e w = 31)) := by
    simp only [IntOp.cmpi, BitVec.sle, hi, f16e]
    congr 1
    rw [show (31744#32).toInt = 31744 from rfl]
    apply decide_eq_decide.2
    omega
  rw [hc]
  unfold Scalar.select
  by_cases h : f16e w = 31 <;> simp [h]

theorem kBits_toNat (w : BitVec 16) : (kBits w).toNat =
    w.toNat % 32768 * 8192 + (if f16e w = 31 then 1879048192 else 939524096)
      + (if 32768 ≤ w.toNat then 2147483648 else 0) := by
  have hm := kMag_toNat w
  have hw := w.isLt
  unfold kBits IntOp.ori IntOp.addi
  have h1 : (IntOp.shli .vector (kMag w) 13#32).toNat = w.toNat % 32768 * 8192 := by
    unfold IntOp.shli
    rw [if_pos (by decide), BitVec.shiftLeft_eq', BitVec.toNat_shiftLeft, hm, show (13#32).toNat = 13 from rfl,
      Nat.shiftLeft_eq]
    omega
  rw [BitVec.toNat_or, BitVec.toNat_add, h1, kBias_toNat, kSign_toNat]
  have hlt : w.toNat % 32768 * 8192 + (if f16e w = 31 then 1879048192 else 939524096) < 2 ^ 31 := by
    unfold f16e; split <;> omega
  rw [Nat.mod_eq_of_lt (lt_trans hlt (by norm_num)), or_bit31 _ _ hlt]

/-- What the kernel's integer work finds. -/
theorem kFields (w : BitVec 16) :
    IntOp.cmpi .slt (kMag w) 1024#32 = BitVec.ofBool (decide (f16e w = 0))
    ∧ (kMag w).toInt = ((f16e w * 1024 + f16f w : ℕ) : ℤ)
    ∧ IntOp.cmpi .ne (kSign w) 0#32 = BitVec.ofBool (decide (32768 ≤ w.toNat))
    ∧ ((kBits w).extractLsb' 31 1 == 1#1) = decide (32768 ≤ w.toNat)
    ∧ ((kBits w).extractLsb' 23 8).toNat = (if f16e w = 31 then 255 else f16e w + 112)
    ∧ ((kBits w).extractLsb' 0 23).toNat = f16f w * 8192 := by
  have hm := kMag_toNat w
  have hw := w.isLt
  have hb := kBits_toNat w
  have hi : (kMag w).toInt = ((w.toNat % 32768 : ℕ) : ℤ) := by
    rw [BitVec.toInt_eq_toNat_of_lt (by omega), hm]
  have hs := kSign_toNat w
  have h31 : ((kBits w).extractLsb' 31 1).toNat = if 32768 ≤ w.toNat then 1 else 0 := by
    rw [BitVec.extractLsb'_toNat, Nat.shiftRight_eq_div_pow, hb]
    unfold f16e
    generalize w.toNat = n at hw ⊢
    split <;> split <;> omega
  have h23 : ((kBits w).extractLsb' 23 8).toNat = (if f16e w = 31 then 255 else f16e w + 112) := by
    rw [BitVec.extractLsb'_toNat, Nat.shiftRight_eq_div_pow, hb]
    unfold f16e
    generalize w.toNat = n at hw ⊢
    split <;> split <;> omega
  have h0 : ((kBits w).extractLsb' 0 23).toNat = f16f w * 8192 := by
    rw [BitVec.extractLsb'_toNat, Nat.shiftRight_eq_div_pow, hb]
    unfold f16e f16f
    generalize w.toNat = n at hw ⊢
    split <;> split <;> omega
  have hlt : (kMag w).slt 1024#32 = decide (f16e w = 0) := by
    rw [BitVec.slt, hi, show (1024#32).toInt = 1024 from rfl]
    apply decide_eq_decide.2
    unfold f16e
    omega
  refine ⟨congrArg BitVec.ofBool hlt, ?_, ?_, ?_, h23, h0⟩
  · rw [hi]; unfold f16e f16f; omega
  · refine congrArg BitVec.ofBool ?_
    by_cases h : 32768 ≤ w.toNat
    · rw [if_pos h] at hs
      have : kSign w ≠ 0#32 := fun e => by rw [e] at hs; simp at hs
      rw [decide_eq_true h]
      exact bne_iff_ne.2 this
    · rw [if_neg h] at hs
      have : kSign w = 0#32 := BitVec.eq_of_toNat_eq hs
      rw [decide_eq_false h, this]
      rfl
  · by_cases h : 32768 ≤ w.toNat
    · rw [if_pos h] at h31
      have e : (kBits w).extractLsb' 31 1 = 1#1 := BitVec.eq_of_toNat_eq h31
      rw [decide_eq_true h, e]; rfl
    · rw [if_neg h] at h31
      have e : (kBits w).extractLsb' 31 1 = 0#1 := BitVec.eq_of_toNat_eq h31
      rw [decide_eq_false h, e]; rfl

/-- What a binary32 word of three fields denotes when it is neither subnormal nor an infinity or NaN. -/
theorem ieee32_normal (b : BitVec 32) (n : Bool) (e f : ℕ) (hn : (b.extractLsb' 31 1 == 1#1) = n)
    (he : (b.extractLsb' 23 8).toNat = e) (hf : (b.extractLsb' 0 23).toNat = f) (h0 : e ≠ 0) (h1 : e ≠ 255) :
    FloatOps.ofBits (F := Ideal) .f32 b
      = (((if n then (-1 : ℝ) else 1) * (8388608 + (f : ℝ)) * (2 : ℝ) ^ ((e : ℤ) - 150) : ℝ) : EReal) := by
  show Ideal.ieee 8 23 b = _
  unfold Ideal.ieee
  simp only [show (8 + 23 : ℕ) = 31 from rfl, hn, he, hf]
  rw [if_neg (by simpa using h1), if_neg h0]
  refine congrArg Real.toEReal ?_
  have e1 : ((e : ℤ) - (2 ^ (8 - 1) - 1) - (23 : ℕ)) = (e : ℤ) - 150 := by norm_num; ring
  have e2 : (((2 ^ 23 + f : ℕ)) : ℝ) = 8388608 + (f : ℝ) := by push_cast; norm_num
  rw [e1, e2]

/-- What a binary32 word whose exponent is all ones denotes. -/
theorem ieee32_top (b : BitVec 32) (n : Bool) (f : ℕ) (hn : (b.extractLsb' 31 1 == 1#1) = n)
    (he : (b.extractLsb' 23 8).toNat = 255) (hf : (b.extractLsb' 0 23).toNat = f) :
    FloatOps.ofBits (F := Ideal) .f32 b = if f = 0 then (if n then (⊥ : EReal) else ⊤) else ⊥ := by
  show Ideal.ieee 8 23 b = _
  unfold Ideal.ieee
  simp only [show (8 + 23 : ℕ) = 31 from rfl, hn, he, hf]
  rw [if_pos (by norm_num)]

theorem select_ofBool {α : Type} (c : Prop) [Decidable c] (a b : α) :
    Scalar.select (BitVec.ofBool (decide c)) a b = if c then a else b := by
  unfold Scalar.select
  by_cases h : c <;> simp [h]

/-- THE KERNEL'S SCALE: the number the word denotes, for every word. -/
theorem kScale_eq (w : BitVec 16) : kScale w = f16 w := by
  obtain ⟨h1, h2, h3, h4, h5, h6⟩ := kFields w
  have he : f16e w < 32 := Nat.mod_lt _ (by norm_num)
  have hf : f16f w < 1024 := Nat.mod_lt _ (by norm_num)
  have e1 := ieee32_normal 0x33800000#32 false 103 0 (by decide) (by decide) (by decide) (by norm_num) (by norm_num)
  have e2 := ieee32_normal 0xB3800000#32 true 103 0 (by decide) (by decide) (by decide) (by norm_num) (by norm_num)
  unfold kScale
  rw [h1, h3, select_ofBool, select_ofBool, e1, e2]
  unfold f16 f16mag
  by_cases z : f16e w = 0
  · have t : ¬f16e w = 31 := by omega
    rw [if_pos z, if_neg (fun h : f16e w = 31 ∧ f16f w ≠ 0 => t h.1), if_neg t, if_pos z]
    show (((kMag w).toInt : ℝ) : EReal) * _ = _
    rw [h2, show f16e w * 1024 + f16f w = f16f w by omega]
    by_cases hs : 32768 ≤ w.toNat
    · rw [if_pos hs, if_pos hs, ← EReal.coe_mul, ← EReal.coe_neg]
      refine congrArg Real.toEReal ?_
      push_cast; norm_num
    · rw [if_neg hs, if_neg hs, ← EReal.coe_mul]
      refine congrArg Real.toEReal ?_
      push_cast; norm_num
  · rw [if_neg z]
    by_cases t : f16e w = 31
    · rw [if_pos t] at h5
      rw [ieee32_top _ _ _ h4 h5 h6, if_pos t]
      by_cases f0 : f16f w = 0
      · rw [if_pos (by omega), if_neg (fun h : f16e w = 31 ∧ f16f w ≠ 0 => h.2 f0)]
        by_cases hs : 32768 ≤ w.toNat <;> simp [hs]
      · rw [if_neg (by omega), if_pos ⟨t, f0⟩]
    · rw [if_neg t] at h5
      rw [ieee32_normal _ _ _ _ h4 h5 h6 (by omega) (by omega), if_neg (fun h : f16e w = 31 ∧ f16f w ≠ 0 => t h.1), if_neg t, if_neg z]
      have hp : (2 : ℝ) ^ (((f16e w + 112 : ℕ) : ℤ) - 150) = (2 : ℝ) ^ ((f16e w : ℤ) - 25) * (1 / 8192) := by
        rw [show ((f16e w + 112 : ℕ) : ℤ) - 150 = ((f16e w : ℤ) - 25) + (-13) by push_cast; ring, zpow_add₀ (by norm_num)]
        norm_num
      rw [hp]
      by_cases hs : 32768 ≤ w.toNat
      · rw [if_pos hs, decide_eq_true hs, ← EReal.coe_neg]
        refine congrArg Real.toEReal ?_
        push_cast; rw [if_pos rfl]; ring
      · rw [if_neg hs, decide_eq_false hs, if_neg Bool.false_ne_true]
        refine congrArg Real.toEReal ?_
        push_cast; ring

end Cert.Swiglu

end
-- ==== Proof.Swiglu.RefScale.lean ====
/- The reference's way from a binary16 word to its number: `(1024 + f) · 2^(e - 25)`, `f · 2^-24` for a subnormal,
   with the infinities, the NaNs and the sign selected after. It is `f16 w`, for every word. -/
module

public import proofs.«01_k».proof.Proof.Swiglu.F16
public import Mathlib.Analysis.SpecialFunctions.Pow.Real

@[expose] public section

set_option maxRecDepth 16384

noncomputable section

namespace Cert.Swiglu

open Idealize.ShloMosaic

/-- The exponent field, as the reference computes it. -/
def rExp (w : BitVec 16) : BitVec 32 := IntOp.andi (IntOp.shrsi .host (wide w) 10#32) 31#32

/-- The fraction field. -/
def rFrac (w : BitVec 16) : BitVec 32 := IntOp.andi (wide w) 1023#32

/-- The magnitude. -/
def rMag (w : BitVec 16) : EReal :=
  Scalar.select (IntOp.cmpi .eq (rExp w) 31#32) (FloatOps.ofBits (F := Ideal) .f32 0x7F800000#32)
    (Scalar.select (IntOp.cmpi .eq (rExp w) 0#32)
      (FloatOps.mulf (F := Ideal) (φ := .f32) (FloatOps.sitofp (F := Ideal) .f32 (rFrac w)) (FloatOps.ofBits (F := Ideal) .f32 0x33800000#32))
      (FloatOps.mulf (F := Ideal) (φ := .f32)
        (FloatOps.addf (F := Ideal) (φ := .f32) (FloatOps.sitofp (F := Ideal) .f32 (rFrac w)) (FloatOps.ofBits (F := Ideal) .f32 0x44800000#32))
        (FloatOps.hostPowf (F := Ideal) (φ := .f32) (FloatOps.ofBits (F := Ideal) .f32 0x40000000#32)
          (FloatOps.subf (F := Ideal) (φ := .f32) (FloatOps.sitofp (F := Ideal) .f32 (rExp w)) (FloatOps.ofBits (F := Ideal) .f32 0x41C80000#32)))))

/-- The scale as the reference decodes it. -/
def rScale (w : BitVec 16) : EReal :=
  Scalar.select (IntOp.andi (IntOp.cmpi .eq (rExp w) 31#32) (IntOp.cmpi .ne (rFrac w) 0#32)) (FloatOps.ofBits (F := Ideal) .f32 0x7FC00000#32)
    (Scalar.select (IntOp.cmpi .sge (wide w) 32768#32) (FloatOps.hostNegf (F := Ideal) (φ := .f32) (rMag w)) (rMag w))

theorem rExp_toNat (w : BitVec 16) : (rExp w).toNat = f16e w := by
  have hw := w.isLt
  have hm : (wide w).msb = false := by
    rw [BitVec.msb_eq_false_iff_two_mul_lt, wide_toNat]; omega
  unfold rExp IntOp.andi IntOp.shrsi
  rw [if_pos (by decide), BitVec.sshiftRight_eq', BitVec.sshiftRight_eq_of_msb_false hm, BitVec.toNat_and,
    show (31#32).toNat = 2 ^ 5 - 1 from rfl, Nat.and_two_pow_sub_one_eq_mod, BitVec.toNat_ushiftRight, wide_toNat,
    Nat.shiftRight_eq_div_pow]
  rfl

theorem rFrac_toNat (w : BitVec 16) : (rFrac w).toNat = f16f w := by
  unfold rFrac IntOp.andi
  rw [BitVec.toNat_and, wide_toNat, show (1023#32).toNat = 2 ^ 10 - 1 from rfl, Nat.and_two_pow_sub_one_eq_mod]
  rfl

/-- Equality of two words, as the comparison gives it, when one is known as a number. -/
theorem cmp_eq (b : BitVec 32) (n k : ℕ) (hb : b.toNat = n) (hk : k < 2 ^ 32) :
    IntOp.cmpi .eq b (BitVec.ofNat 32 k) = BitVec.ofBool (decide (n = k)) := by
  refine congrArg BitVec.ofBool ?_
  have : b = BitVec.ofNat 32 k ↔ n = k := by
    rw [← BitVec.toNat_inj, hb, BitVec.toNat_ofNat, Nat.mod_eq_of_lt hk]
  by_cases h : n = k
  · rw [decide_eq_true h]; exact beq_iff_eq.2 (this.2 h)
  · rw [decide_eq_false h]; exact beq_eq_false_iff_ne.2 fun e => h (this.1 e)

theorem cmp_ne (b : BitVec 32) (n k : ℕ) (hb : b.toNat = n) (hk : k < 2 ^ 32) :
    IntOp.cmpi .ne b (BitVec.ofNat 32 k) = BitVec.ofBool (decide (n ≠ k)) := by
  refine congrArg BitVec.ofBool ?_
  have : b = BitVec.ofNat 32 k ↔ n = k := by
    rw [← BitVec.toNat_inj, hb, BitVec.toNat_ofNat, Nat.mod_eq_of_lt hk]
  by_cases h : n = k
  · rw [decide_eq_false (fun e => e h)]; exact bne_eq_false_iff_eq.2 (this.2 h)
  · rw [decide_eq_true h]; exact bne_iff_ne.2 fun e => h (this.1 e)

theorem and_ofBool (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem toInt_small (b : BitVec 32) (n : ℕ) (hb : b.toNat = n) (hn : n < 2 ^ 31) : b.toInt = (n : ℤ) := by
  rw [BitVec.toInt_eq_toNat_of_lt (by omega), hb]

theorem rMag_eq (w : BitVec 16) : rMag w = f16mag w := by
  have he : f16e w < 32 := Nat.mod_lt _ (by norm_num)
  have hf : f16f w < 1024 := Nat.mod_lt _ (by norm_num)
  have c24 := ieee32_normal 0x33800000#32 false 103 0 (by decide) (by decide) (by decide) (by norm_num) (by norm_num)
  have c1024 := ieee32_normal 0x44800000#32 false 137 0 (by decide) (by decide) (by decide) (by norm_num) (by norm_num)
  have c2 := ieee32_normal 0x40000000#32 false 128 0 (by decide) (by decide) (by decide) (by norm_num) (by norm_num)
  have c25 := ieee32_normal 0x41C80000#32 false 131 4718592 (by decide) (by decide) (by decide) (by norm_num) (by norm_num)
  have cinf := ieee32_top 0x7F800000#32 false 0 (by decide) (by decide) (by decide)
  unfold rMag f16mag
  rw [cmp_eq _ _ 31 (rExp_toNat w) (by norm_num), cmp_eq _ _ 0 (rExp_toNat w) (by norm_num), select_ofBool, select_ofBool,
    c24, c1024, c2, c25, cinf]
  have hsf : FloatOps.sitofp (F := Ideal) .f32 (rFrac w) = ((f16f w : ℝ) : EReal) := by
    show (((rFrac w).toInt : ℝ) : EReal) = _
    rw [toInt_small _ _ (rFrac_toNat w) (by omega)]; norm_num
  have hse : FloatOps.sitofp (F := Ideal) .f32 (rExp w) = ((f16e w : ℝ) : EReal) := by
    show (((rExp w).toInt : ℝ) : EReal) = _
    rw [toInt_small _ _ (rExp_toNat w) (by omega)]; norm_num
  rw [hsf, hse]
  by_cases t : f16e w = 31
  · rw [if_pos t, if_pos t, if_pos rfl, if_neg Bool.false_ne_true]
  · rw [if_neg t, if_neg t]
    by_cases z : f16e w = 0
    · rw [if_pos z, if_pos z]
      show ((_ : ℝ) : EReal) * ((_ : ℝ) : EReal) = _
      rw [← EReal.coe_mul]
      refine congrArg Real.toEReal ?_
      norm_num
    · rw [if_neg z, if_neg z]
      show (((f16f w : ℝ) : EReal) + ((_ : ℝ) : EReal)) * Ideal.pow ((_ : ℝ) : EReal) (((f16e w : ℝ) : EReal) - ((_ : ℝ) : EReal)) = _
      rw [← EReal.coe_add, ← EReal.coe_sub]
      show _ * ((Real.rpow _ _ : ℝ) : EReal) = _
      rw [← EReal.coe_mul]
      refine congrArg Real.toEReal ?_
      have p : ∀ (a b : ℝ), a = 2 → b = (f16e w : ℝ) - 25 → Real.rpow a b = (2 : ℝ) ^ ((f16e w : ℤ) - 25) := by
        rintro a b rfl rfl
        rw [← Real.rpow_intCast]
        push_cast
        rfl
      rw [p _ _ (by norm_num) (by norm_num)]
      norm_num

/-- THE REFERENCE'S SCALE: the number the word denotes, for every word. -/
theorem rScale_eq (w : BitVec 16) : rScale w = f16 w := by
  have hw := w.isLt
  have cnan := ieee32_top 0x7FC00000#32 false 4194304 (by decide) (by decide) (by decide)
  have hs : IntOp.cmpi .sge (wide w) 32768#32 = BitVec.ofBool (decide (32768 ≤ w.toNat)) := by
    simp only [IntOp.cmpi, BitVec.sle, toInt_small _ _ (wide_toNat w) (by omega)]
    refine congrArg BitVec.ofBool ?_
    rw [show (32768#32).toInt = 32768 from rfl]
    apply decide_eq_decide.2
    omega
  unfold rScale f16
  rw [cmp_eq _ _ 31 (rExp_toNat w) (by norm_num), cmp_ne _ _ 0 (rFrac_toNat w) (by norm_num), and_ofBool, hs, select_ofBool, select_ofBool,
    rMag_eq, cnan, if_neg (by norm_num : ¬(4194304 : ℕ) = 0)]
  rfl

end Cert.Swiglu

end
-- ==== Proof.Swiglu.Spec.lean ====
/- The mathematics both programs are held to: a weight of a q4_0 row as an extended real, a row of the product with such
   weights, and the split of that product into the sum over the low codes and the sum over the high codes. -/
module

public import proofs.«01_k».proof.Proof.Swiglu.TileValue
public import proofs.«01_k».proof.Proof.Swiglu.RefScale

@[expose] public section

set_option maxRecDepth 16384

noncomputable section

namespace Cert.Swiglu

open Idealize.ShloMosaic
open scoped BigOperators

/-- Weight `k` of row `n`: groups of 32 share a scale, the group's first 16 codes are the low halves of its 16 bytes,
    the last 16 the high halves. -/
def wt {N B G K : ℕ} (hb : 2 * B = K) (hg : 32 * G = K) (Q : (⟨2, ![N, B]⟩ : Shape).Idx → BitVec 8)
    (S : (⟨2, ![N, G]⟩ : Shape).Idx → BitVec 16) (n : Fin N) (k : Fin K) : EReal :=
  (((code (k.val / 16 % 2) (Q (ix2 n ⟨k.val / 32 * 16 + k.val % 16, by omega⟩)) : ℝ) - 8 : ℝ) : EReal)
    * f16 (S (ix2 n ⟨k.val / 32, by omega⟩))

/-- Entry `n` of the product of a row with the weights. -/
def dot {N B G K : ℕ} (hb : 2 * B = K) (hg : 32 * G = K) (x : Fin K → EReal) (Q : (⟨2, ![N, B]⟩ : Shape).Idx → BitVec 8)
    (S : (⟨2, ![N, G]⟩ : Shape).Idx → BitVec 16) (n : Fin N) : EReal :=
  ∑ k : Fin K, x k * wt hb hg Q S n k

/-- `g · sigmoid g · u`. -/
def swiglu (g u : EReal) : EReal := g * Ideal.logistic g * u

/-- A sum over a row, group by group: the first halves of the groups, then the last halves. -/
theorem sum_split {G K : ℕ} (hg : 32 * G = K) (f : Fin K → EReal) :
    ∑ k : Fin K, f k = (∑ g : Fin G, ∑ j : Fin 16, f ⟨32 * g.val + j.val, by omega⟩)
      + ∑ g : Fin G, ∑ j : Fin 16, f ⟨32 * g.val + (16 + j.val), by omega⟩ := by
  rw [← Finset.sum_add_distrib]
  have hK : G * 32 = K := by omega
  subst hK
  rw [← finProdFinEquiv.sum_comp, Fintype.sum_prod_type]
  refine Finset.sum_congr rfl fun g _ => ?_
  rw [show (∑ y : Fin 32, f (finProdFinEquiv (g, y))) = ∑ y : Fin (16 + 16), f (finProdFinEquiv (g, y)) from rfl, Fin.sum_univ_add]
  congr 1
  · refine Finset.sum_congr rfl fun j _ => congrArg f (Fin.ext ?_)
    show j.val + 32 * g.val = _
    exact Nat.add_comm _ _
  · refine Finset.sum_congr rfl fun j _ => congrArg f (Fin.ext ?_)
    show (16 + j.val) + 32 * g.val = _
    exact Nat.add_comm _ _

/-- The weight at a low code. -/
theorem wt_lo {N B G K : ℕ} (hb : 2 * B = K) (hg : 32 * G = K) (Q : (⟨2, ![N, B]⟩ : Shape).Idx → BitVec 8)
    (S : (⟨2, ![N, G]⟩ : Shape).Idx → BitVec 16) (n : Fin N) (g : Fin G) (j : Fin 16) :
    wt hb hg Q S n ⟨32 * g.val + j.val, by omega⟩
      = (((code 0 (Q (ix2 n ⟨16 * g.val + j.val, by omega⟩)) : ℝ) - 8 : ℝ) : EReal) * f16 (S (ix2 n g)) := by
  unfold wt
  have e1 : (⟨(32 * g.val + j.val) / 32 * 16 + (32 * g.val + j.val) % 16, by omega⟩ : Fin B) = ⟨16 * g.val + j.val, by omega⟩ :=
    Fin.ext (by show (32 * g.val + j.val) / 32 * 16 + (32 * g.val + j.val) % 16 = 16 * g.val + j.val; omega)
  have e2 : (⟨(32 * g.val + j.val) / 32, by omega⟩ : Fin G) = g := Fin.ext (by show (32 * g.val + j.val) / 32 = g.val; omega)
  have e3 : (32 * g.val + j.val) / 16 % 2 = 0 := by omega
  simp only [e1, e2, e3]

/-- The weight at a high code. -/
theorem wt_hi {N B G K : ℕ} (hb : 2 * B = K) (hg : 32 * G = K) (Q : (⟨2, ![N, B]⟩ : Shape).Idx → BitVec 8)
    (S : (⟨2, ![N, G]⟩ : Shape).Idx → BitVec 16) (n : Fin N) (g : Fin G) (j : Fin 16) :
    wt hb hg Q S n ⟨32 * g.val + (16 + j.val), by omega⟩
      = (((code 1 (Q (ix2 n ⟨16 * g.val + j.val, by omega⟩)) : ℝ) - 8 : ℝ) : EReal) * f16 (S (ix2 n g)) := by
  unfold wt
  have e1 : (⟨(32 * g.val + (16 + j.val)) / 32 * 16 + (32 * g.val + (16 + j.val)) % 16, by omega⟩ : Fin B) = ⟨16 * g.val + j.val, by omega⟩ :=
    Fin.ext (by show (32 * g.val + (16 + j.val)) / 32 * 16 + (32 * g.val + (16 + j.val)) % 16 = 16 * g.val + j.val; omega)
  have e2 : (⟨(32 * g.val + (16 + j.val)) / 32, by omega⟩ : Fin G) = g := Fin.ext (by show (32 * g.val + (16 + j.val)) / 32 = g.val; omega)
  have e3 : (32 * g.val + (16 + j.val)) / 16 % 2 = 1 := by omega
  simp only [e1, e2, e3]

/-- THE EQUATION: the product, as the sum over the low codes and the sum over the high codes. -/
theorem dot_split {N B G K : ℕ} (hb : 2 * B = K) (hg : 32 * G = K) (x : Fin K → EReal) (Q : (⟨2, ![N, B]⟩ : Shape).Idx → BitVec 8)
    (S : (⟨2, ![N, G]⟩ : Shape).Idx → BitVec 16) (n : Fin N) :
    dot hb hg x Q S n
      = (∑ g : Fin G, ∑ j : Fin 16, x ⟨32 * g.val + j.val, by omega⟩
          * ((((code 0 (Q (ix2 n ⟨16 * g.val + j.val, by omega⟩)) : ℝ) - 8 : ℝ) : EReal) * f16 (S (ix2 n g))))
        + ∑ g : Fin G, ∑ j : Fin 16, x ⟨32 * g.val + (16 + j.val), by omega⟩
          * ((((code 1 (Q (ix2 n ⟨16 * g.val + j.val, by omega⟩)) : ℝ) - 8 : ℝ) : EReal) * f16 (S (ix2 n g))) := by
  unfold dot
  rw [sum_split hg]
  simp only [wt_lo, wt_hi]

/-! ## The reference's codes -/

theorem code_zero (b : BitVec 8) : code 0 b = b.toNat % 16 := rfl
theorem code_one (b : BitVec 8) : code 1 b = b.toNat / 16 := rfl

/-- The low code, as the reference computes it. -/
theorem ref_lo (b : BitVec 8) :
    FloatOps.subf (F := Ideal) (φ := .f32) (FloatOps.sitofp (F := Ideal) .f32 (IntOp.andi (b.zeroExtend 32) 15#32)) (FloatOps.ofBits (F := Ideal) .f32 0x41000000#32)
      = (((code 0 b : ℝ) - 8 : ℝ) : EReal) := by
  have c8 := ieee32_normal 0x41000000#32 false 130 0 (by decide) (by decide) (by decide) (by norm_num) (by norm_num)
  have h : (IntOp.andi (b.zeroExtend 32) 15#32).toNat = code 0 b := by
    unfold IntOp.andi
    rw [code_zero, BitVec.toNat_and, show (15#32).toNat = 2 ^ 4 - 1 from rfl, Nat.and_two_pow_sub_one_eq_mod, BitVec.toNat_setWidth]
    have := b.isLt; omega
  have hc : code 0 b < 16 := Nat.mod_lt _ (by norm_num)
  rw [c8]
  show ((((IntOp.andi (b.zeroExtend 32) 15#32).toInt : ℝ) : EReal) - ((_ : ℝ) : EReal)) = _
  rw [toInt_small _ _ h (by omega), ← EReal.coe_sub]
  refine congrArg Real.toEReal ?_
  push_cast; norm_num

/-- The high code. -/
theorem ref_hi (b : BitVec 8) :
    FloatOps.subf (F := Ideal) (φ := .f32) (FloatOps.sitofp (F := Ideal) .f32 (IntOp.shrsi .host (b.zeroExtend 32) 4#32)) (FloatOps.ofBits (F := Ideal) .f32 0x41000000#32)
      = (((code 1 b : ℝ) - 8 : ℝ) : EReal) := by
  have c8 := ieee32_normal 0x41000000#32 false 130 0 (by decide) (by decide) (by decide) (by norm_num) (by norm_num)
  have hb := b.isLt
  have hz : (b.zeroExtend 32).toNat = b.toNat := by rw [BitVec.toNat_setWidth]; omega
  have hm : (b.zeroExtend 32).msb = false := by rw [BitVec.msb_eq_false_iff_two_mul_lt, hz]; omega
  have h : (IntOp.shrsi .host (b.zeroExtend 32) 4#32).toNat = code 1 b := by
    unfold IntOp.shrsi code
    rw [if_pos (by decide), BitVec.sshiftRight_eq', BitVec.sshiftRight_eq_of_msb_false hm, BitVec.toNat_ushiftRight, hz,
      Nat.shiftRight_eq_div_pow]
    rfl
  have hc : code 1 b < 16 := by rw [code_one]; omega
  rw [c8]
  show ((((IntOp.shrsi .host (b.zeroExtend 32) 4#32).toInt : ℝ) : EReal) - ((_ : ℝ) : EReal)) = _
  rw [toInt_small _ _ h (by omega), ← EReal.coe_sub]
  refine congrArg Real.toEReal ?_
  push_cast; norm_num

end Cert.Swiglu

end
-- ==== Proof.Swiglu.UpKernel.lean ====
/- What the gate and up kernel computes over the extended reals: every entry of `h` is `g · sigmoid g · u`, `g` and `u` the
   entries of the two products. -/
module

public import proofs.«01_k».proof.Proof.Swiglu.Out
public import proofs.«01_k».proof.Proof.Swiglu.Spec
public import Idealize.ShloMosaic.Lib.Pointwise

@[expose] public section

set_option maxRecDepth 16384

noncomputable section

namespace Cert.UpIdeal.Value

open Idealize.ShloMosaic Idealize.ShloMosaic.TcCoe Idealize.ShloMosaic.Tactic
open Cert.UpIdeal.Gen Cert.Swiglu
open scoped BigOperators

/-- The decoded scales are the numbers the words denote, transposed. -/
theorem scales_apply (w : Vec Ideal S256x224 .i16) (g : Fin 224) (r : Fin 256) :
    k0_pay4 (F := Ideal) w (ix2 g r) = f16 (w (ix2 r g)) := by
  have e : transpose (α := BitVec 16) S224x256 [1, 0] w transposes_S256x224_p1_0_S224x256 (ix2 g r) = w (ix2 r g) := by
    simp only [pointwise]
  refine Eq.trans ?_ (kScale_eq (w (ix2 r g)))
  rw [← e]
  unfold k0_pay4
  rw [shapeCast_self]
  generalize transpose (α := BitVec 16) S224x256 [1, 0] w transposes_S256x224_p1_0_S224x256 = y
  rfl

/-- Half a weight block, entry by entry. -/
theorem half_apply (Q : Vec Ideal S18432x3584 .i8) (S : Vec Ideal S18432x224 .i16) (b : Fin 72) (k : Fin 7168) (r : Fin 256)
    (n : Fin 18432) (hn : n.val = 256 * b.val + r.val) :
    half (F := Ideal) (qRows Q b) (sRows S b) k r = wt (by norm_num : 2 * 3584 = 7168) (by norm_num : 32 * 224 = 7168) Q S n k := by
  unfold half wt
  rw [tile_apply]
  have e1 : qOf (F := Ideal) (qRows Q b) ⟨k.val / 256, by omega⟩ (ix2 r ⟨k.val % 256 / 32 * 16 + k.val % 256 % 16, by omega⟩)
      = Q (ix2 n ⟨k.val / 32 * 16 + k.val % 16, by omega⟩) := by
    refine congrArg Q (funext fun a => Fin.ext ?_)
    fin_cases a
    · show 256 * b.val + r.val = n.val; omega
    · show 128 * (k.val / 256) + (k.val % 256 / 32 * 16 + k.val % 256 % 16) = k.val / 32 * 16 + k.val % 16; omega
  have e2 : sOf (F := Ideal) (sRows S b) ⟨k.val / 256, by omega⟩ (ix2 ⟨k.val % 256 / 32, by omega⟩ r)
      = f16 (S (ix2 n ⟨k.val / 32, by omega⟩)) := by
    refine (scales_apply (sRows S b) ⟨8 * (k.val / 256) + k.val % 256 / 32, by omega⟩ r).trans ?_
    refine congrArg (fun i => f16 (S i)) (funext fun a => Fin.ext ?_)
    fin_cases a
    · show 256 * b.val + r.val = n.val; omega
    · show 8 * (k.val / 256) + k.val % 256 / 32 = k.val / 32; omega
  have e3 : k.val % 256 / 16 % 2 = k.val / 16 % 2 := by omega
  rw [e2]
  simp only [e3]
  rw [e1]

/-- The product's body, entry by entry. -/
theorem pay3_apply (x : Vec Ideal S1024x7168 .bf16) (w : Vec Ideal S7168x512 .bf16) (r : Fin 1024) (n : Fin 256) :
    k0_pay3 (F := Ideal) x w (ix2 r n)
      = swiglu (∑ k : Fin 7168, x (ix2 r k) * w (ix2 k ⟨n.val, by omega⟩)) (∑ k : Fin 7168, x (ix2 r k) * w (ix2 k ⟨256 + n.val, by omega⟩)) := by
  unfold k0_pay3
  rw [shapeCast_self]
  have key : ∀ q : Fin 512, matmul (F := Ideal) (φ₁ := .bf16) (φ₂ := .bf16) dot_S1024x7168_S7168x512_S1024x512_1_0_0_1_n_n none x w (constant S1024x512 .f32 0x00000000#32) (ix2 r q)
      = ∑ k : Fin 7168, x (ix2 r k) * w (ix2 k q) := by
    intro q
    simp only [pointwise]
    rw [zero_add]
  generalize matmul (F := Ideal) (φ₁ := .bf16) (φ₂ := .bf16) dot_S1024x7168_S7168x512_S1024x512_1_0_0_1_n_n none x w (constant S1024x512 .f32 0x00000000#32) = y at key ⊢
  rw [← key, ← key]
  show truncf .bf16 (mulf (mulf (extractStridedSlice S1024x256 ![0, 0] y slices_S1024x512_o0_0_S1024x256) (logistic (extractStridedSlice S1024x256 ![0, 0] y slices_S1024x512_o0_0_S1024x256)))
    (extractStridedSlice S1024x256 ![0, 256] y slices_S1024x512_o0_256_S1024x256)) bitsLt_bf16_f32 (ix2 r n) = _
  have a0 : extractStridedSlice S1024x256 ![0, 0] y slices_S1024x512_o0_0_S1024x256 (ix2 r n) = y (ix2 r ⟨n.val, by omega⟩) := by
    refine congrArg y (funext fun a => Fin.ext ?_)
    fin_cases a
    · show 0 + r.val = r.val; omega
    · show 0 + n.val = n.val; omega
  have a1 : extractStridedSlice S1024x256 ![0, 256] y slices_S1024x512_o0_256_S1024x256 (ix2 r n) = y (ix2 r ⟨256 + n.val, by omega⟩) := by
    refine congrArg y (funext fun a => Fin.ext ?_)
    fin_cases a
    · show 0 + r.val = r.val; omega
    · show 256 + n.val = 256 + n.val; omega
  rw [← a0, ← a1]
  rfl

variable (m : (ℓ : Loc nD τ sig) → Buf (Elt Ideal) ℓ)

/-- The rows of `x`, the unit axis dropped. -/
theorem x_apply (c : Dev nD) (r : Fin 3072) (k : Fin 7168) :
    V m c main_v0 (ix2 r k) = m ((c : Thread nD τ).loc main_arg0) (ix3 r 0 k) := by
  have e : V m c main_v0 = shapeCast S3072x7168 (m ((c : Thread nD τ).loc main_arg0)) shapeCasts_S3072x1x7168_S3072x7168 := by
    show StableHlo.after hostOps0 (fun b => m (c, b)) (Proc.devRef .tc main_v0) = _
    rw [StableHlo.after_cons, StableHlo.after_nil, StableHlo.reshape_result]
    rfl
  rw [e]
  exact shapeCast_apply _ _ (ix2 r k) (ix3 r 0 k) (by
    rw [Shape.rowMajor_val_two, Shape.rowMajor_val_three]
    show (r.val * 1 + 0) * 7168 + k.val = r.val * 7168 + k.val
    omega)

/-- THE KERNEL'S VALUE. -/
theorem h_apply (c : Dev nD) (r : Fin 3072) (n : Fin 18432) :
    G5 (F := Ideal) m c (ix2 r n)
      = swiglu
        (dot (by norm_num : 2 * 3584 = 7168) (by norm_num : 32 * 224 = 7168) (fun k => m ((c : Thread nD τ).loc main_arg0) (ix3 r 0 k))
          (m ((c : Thread nD τ).loc main_arg1)) (m ((c : Thread nD τ).loc main_arg2)) n)
        (dot (by norm_num : 2 * 3584 = 7168) (by norm_num : 32 * 224 = 7168) (fun k => m ((c : Thread nD τ).loc main_arg0) (ix3 r 0 k))
          (m ((c : Thread nD τ).loc main_arg3)) (m ((c : Thread nD τ).loc main_arg4)) n) := by
  rw [G5_eq, pay3_apply]
  have ex : ∀ k : Fin 7168, xRows (V m c main_v0) ⟨r.val / 1024, by omega⟩ (ix2 ⟨r.val % 1024, Nat.mod_lt _ (by decide)⟩ k)
      = m ((c : Thread nD τ).loc main_arg0) (ix3 r 0 k) := by
    intro k
    rw [← x_apply m c r k]
    refine congrArg (V m c main_v0) (funext fun a => Fin.ext ?_)
    fin_cases a
    · show 1024 * (r.val / 1024) + r.val % 1024 = r.val; omega
    · rfl
  have eg : ∀ k : Fin 7168, Wb m c ⟨n.val / 256, by omega⟩ (ix2 k ⟨n.val % 256, by omega⟩)
      = wt (by norm_num : 2 * 3584 = 7168) (by norm_num : 32 * 224 = 7168) (m ((c : Thread nD τ).loc main_arg1)) (m ((c : Thread nD τ).loc main_arg2)) n k := by
    intro k
    unfold Wb W
    rw [if_pos (by show n.val % 256 < 256; omega)]
    exact half_apply _ _ _ _ _ n (by show n.val = 256 * (n.val / 256) + n.val % 256 % 256; omega)
  have eu : ∀ k : Fin 7168, Wb m c ⟨n.val / 256, by omega⟩ (ix2 k ⟨256 + n.val % 256, by omega⟩)
      = wt (by norm_num : 2 * 3584 = 7168) (by norm_num : 32 * 224 = 7168) (m ((c : Thread nD τ).loc main_arg3)) (m ((c : Thread nD τ).loc main_arg4)) n k := by
    intro k
    unfold Wb W
    rw [if_neg (by show ¬(256 + n.val % 256 < 256); omega)]
    exact half_apply _ _ _ _ _ n (by show n.val = 256 * (n.val / 256) + (256 + n.val % 256) % 256; omega)
  unfold dot
  simp only [ex, eg, eu]

end Cert.UpIdeal.Value

end
-- ==== Proof.Swiglu.UpRef.lean ====
/- What the reference of the gate and up products computes over the extended reals: every entry of `h` is
   `g · sigmoid g · u`, `g` and `u` each the sum over the low codes plus the sum over the high codes. -/
module

public import proofs.«01_k».proof.Proof.Gen.UpReferenceIdeal.Read
public import proofs.«01_k».proof.Proof.Swiglu.Spec
public import Idealize.ShloMosaic.Lib.Pointwise

@[expose] public section

set_option maxRecDepth 16384

noncomputable section

namespace Cert.UpReferenceIdeal.Value

open Idealize.ShloMosaic Idealize.ShloMosaic.TcCoe
open Cert.UpReferenceIdeal.Gen Cert.Swiglu Cert.UpReferenceIdeal.Read
open scoped BigOperators

variable (x0 : FVec Ideal S3072x1x7168 .bf16) (x1 : IVec S18432x3584 8) (x2 : IVec S18432x224 16)

/-- The decoded gate scales are the numbers the words denote. -/
theorem v37_eq (i : S18432x224.Idx) : val_main_v37 (F := Ideal) x2 i = f16 (x2 i) := by
  refine Eq.trans ?_ (rScale_eq (x2 i))
  rfl

theorem v0_ix (n : Fin 18432) (g : Fin 224) (j : Fin 16) :
    val_main_v0 (F := Ideal) x1 (ix3 n g j) = x1 (ix2 n ⟨16 * g.val + j.val, by omega⟩) := by
  rw [val_main_v0_apply]
  refine congrArg x1 (funext fun a => Fin.ext ?_)
  match a with
  | ⟨0, _⟩ => show ((n.val * 224 + g.val) * 16 + j.val) / 3584 = n.val; omega
  | ⟨1, _⟩ => show ((n.val * 224 + g.val) * 16 + j.val) % 3584 = 16 * g.val + j.val; omega

/-- The low weights. -/
theorem v46_ix (n : Fin 18432) (g : Fin 224) (j : Fin 16) :
    val_main_v46 (F := Ideal) x1 x2 (ix3 n g j)
      = (((code 0 (x1 (ix2 n ⟨16 * g.val + j.val, by omega⟩)) : ℝ) - 8 : ℝ) : EReal) * f16 (x2 (ix2 n g)) := by
  rw [← v0_ix x1 n g j, ← v37_eq x2 (ix2 n g), ← ref_lo]
  show _ * val_main_v44 (F := Ideal) x2 (ix3 n g j) = _
  have e : idx_main_v43 (idx_main_v44 (ix3 n g j)) = ix2 n g := by
    funext a
    match a with
    | ⟨0, _⟩ => rfl
    | ⟨1, _⟩ => rfl
  rw [val_main_v44_apply, val_main_v43_apply, e]
  rfl

/-- The high weights. -/
theorem v55_ix (n : Fin 18432) (g : Fin 224) (j : Fin 16) :
    val_main_v55 (F := Ideal) x1 x2 (ix3 n g j)
      = (((code 1 (x1 (ix2 n ⟨16 * g.val + j.val, by omega⟩)) : ℝ) - 8 : ℝ) : EReal) * f16 (x2 (ix2 n g)) := by
  rw [← v0_ix x1 n g j, ← v37_eq x2 (ix2 n g), ← ref_hi]
  show _ * val_main_v53 (F := Ideal) x2 (ix3 n g j) = _
  have e : idx_main_v52 (idx_main_v53 (ix3 n g j)) = ix2 n g := by
    funext a
    match a with
    | ⟨0, _⟩ => rfl
    | ⟨1, _⟩ => rfl
  rw [val_main_v53_apply, val_main_v52_apply, e]
  rfl

/-- The first half of each group of a row of `x`. -/
theorem v58_ix (r : Fin 3072) (g : Fin 224) (j : Fin 16) :
    val_main_v58 (F := Ideal) x0 (ix4 r 0 g j) = x0 (ix3 r 0 ⟨32 * g.val + j.val, by omega⟩) := by
  rw [val_main_v58_apply, val_main_v57_apply, val_main_v56_apply]
  refine congrArg x0 (funext fun a => Fin.ext ?_)
  match a with
  | ⟨0, _⟩ => show _ / _ = r.val; simp; omega
  | ⟨1, _⟩ => rfl
  | ⟨2, _⟩ => show _ % _ = 32 * g.val + j.val; simp; omega

/-- The last half of each group. -/
theorem v61_ix (r : Fin 3072) (g : Fin 224) (j : Fin 16) :
    val_main_v61 (F := Ideal) x0 (ix4 r 0 g j) = x0 (ix3 r 0 ⟨32 * g.val + (16 + j.val), by omega⟩) := by
  rw [val_main_v61_apply, val_main_v60_apply, val_main_v56_apply]
  refine congrArg x0 (funext fun a => Fin.ext ?_)
  match a with
  | ⟨0, _⟩ => show _ / _ = r.val; simp; omega
  | ⟨1, _⟩ => rfl
  | ⟨2, _⟩ => show _ % _ = 32 * g.val + (16 + j.val); simp; omega

/-- A product contracted over groups and places. -/
theorem dot_ix (A : FVec Ideal S3072x1x224x16 .bf16) (B : FVec Ideal S18432x224x16 .bf16) (r : Fin 3072) (n : Fin 18432) :
    Host.dotGeneral dot_S3072x1x224x16_S18432x224x16_S3072x1x18432_23_12_01_0_n_n none A B (ix3 r 0 n)
      = ∑ g : Fin 224, ∑ j : Fin 16, A (ix4 r 0 g j) * B (ix3 n g j) := by
  simp only [pointwise]
  rw [zero_add]

/-- One of the two products. -/
theorem v63_ix (r : Fin 3072) (n : Fin 18432) :
    val_main_v63 (F := Ideal) x0 x1 x2 (ix3 r 0 n)
      = dot (by norm_num : 2 * 3584 = 7168) (by norm_num : 32 * 224 = 7168) (fun k => x0 (ix3 r 0 k)) x1 x2 n := by
  rw [val_main_v63_apply, dot_split]
  unfold val_main_v59 val_main_v62
  rw [dot_ix, dot_ix]
  simp only [v58_ix, v61_ix, v46_ix, v55_ix]
  rfl

/-- The other product is the same function of the other weights. -/
theorem v127_eq (x3 : IVec S18432x3584 8) (x4 : IVec S18432x224 16) : val_main_v127 (F := Ideal) x0 x3 x4 = val_main_v63 x0 x3 x4 := rfl

theorem one_eq : FloatOps.ofBits (F := Ideal) .f32 0x3F800000#32 = 1 := by
  rw [ieee32_normal 0x3F800000#32 false 127 0 (by decide) (by decide) (by decide) (by norm_num) (by norm_num), ← EReal.coe_one]
  refine congrArg Real.toEReal ?_
  norm_num

/-- THE REFERENCE'S VALUE. -/
theorem h_apply (x3 : IVec S18432x3584 8) (x4 : IVec S18432x224 16) (r : Fin 3072) (n : Fin 18432) :
    val_main_v137 (F := Ideal) x0 x1 x2 x3 x4 (ix2 r n)
      = swiglu (dot (by norm_num : 2 * 3584 = 7168) (by norm_num : 32 * 224 = 7168) (fun k => x0 (ix3 r 0 k)) x1 x2 n)
        (dot (by norm_num : 2 * 3584 = 7168) (by norm_num : 32 * 224 = 7168) (fun k => x0 (ix3 r 0 k)) x3 x4 n) := by
  rw [val_main_v137_apply]
  have e : idx_main_v137 (ix2 r n) = ix3 r 0 n := by
    funext a
    apply Fin.ext
    match a with
    | ⟨0, _⟩ => show (r.val * 18432 + n.val) / 18432 = r.val; omega
    | ⟨1, _⟩ => rfl
    | ⟨2, _⟩ => show (r.val * 18432 + n.val) % 18432 = n.val; omega
  rw [e, val_main_v136_apply, val_main_v135_apply, val_main_v134_apply, val_main_v133_apply, val_main_v132_apply, val_main_v131_apply,
    val_main_v130_apply, val_main_v129_apply, val_main_v128_apply, v127_eq, v63_ix, v63_ix, val_main_cst_36_apply, val_main_cst_37_apply, one_eq]
  rfl

end Cert.UpReferenceIdeal.Value

end
-- ==== Proof.Swiglu.UpClaims.lean ====
/- The claims about the gate and up products that are not the generated frames: the reference's frame, and that kernel and
   reference compute the same array. -/
module

public import proofs.«01_k».proof.Defs
public import proofs.«01_k».proof.Proof.Gen.UpIdeal.Frame
public import proofs.«01_k».proof.Proof.Swiglu.UpKernel
public import proofs.«01_k».proof.Proof.Swiglu.UpRef

@[expose] public section

set_option maxRecDepth 16384

noncomputable section

namespace Cert.Swiglu

open Idealize.ShloMosaic Idealize.SL.Sem

/-- The reference runs, leaves its arguments unchanged, and has no semaphores. -/
theorem upRef_frame : Cert.quiescent_UpReferenceIdeal (hUpReferenceIdeal := Cert.UpReferenceIdeal.Gen.facts) := fun m ρ _ =>
  (θ_run _ _ _).mono (fun r h => ⟨fun c => (h c).2, sem_eq_zero_of_no_sems (by decide) r.2⟩) (Cert.UpReferenceIdeal.Value.run m ρ)

/-- THE GATE AND UP PRODUCTS: kernel and reference end with the same array, over the extended reals. -/
theorem up_algebraic : Cert.algebraic_UpIdeal_UpReferenceIdeal (hUpIdeal := Cert.UpIdeal.Gen.facts)
    (hUpReferenceIdeal := Cert.UpReferenceIdeal.Gen.facts) := by
  intro m g m' g' _ harg
  refine ⟨fun c => Cert.UpIdeal.Value.G5 m c, Cert.UpIdeal.Value.run m g, ?_⟩
  refine (θ_run _ _ _).mono (fun r h c => ⟨?_, (h c).2⟩) (Cert.UpReferenceIdeal.Value.run m' g')
  obtain ⟨a0, a1, a2, a3, a4⟩ := harg c
  refine (h c).1.trans ((Cert.UpReferenceIdeal.Read.val_main_v137_eq (StableHlo.launchContents m' c)).trans ?_)
  funext i
  obtain ⟨r, n, rfl⟩ : ∃ (r : Fin 3072) (n : Fin 18432), i = ix2 r n := ⟨i 0, i 1, (ix2_eta i).symm⟩
  refine (Cert.UpReferenceIdeal.Value.h_apply _ _ _ _ _ r n).trans ((Cert.UpIdeal.Value.h_apply m c r n).trans ?_).symm
  show _ = swiglu (dot _ _ (fun k => m' ((c.tc : Thread Cert.UpReferenceIdeal.nD Cert.UpReferenceIdeal.τ).loc Cert.UpReferenceIdeal.main_arg0) (ix3 r 0 k))
      (m' ((c.tc : Thread Cert.UpReferenceIdeal.nD Cert.UpReferenceIdeal.τ).loc Cert.UpReferenceIdeal.main_arg1))
      (m' ((c.tc : Thread Cert.UpReferenceIdeal.nD Cert.UpReferenceIdeal.τ).loc Cert.UpReferenceIdeal.main_arg2)) n)
    (dot _ _ (fun k => m' ((c.tc : Thread Cert.UpReferenceIdeal.nD Cert.UpReferenceIdeal.τ).loc Cert.UpReferenceIdeal.main_arg0) (ix3 r 0 k))
      (m' ((c.tc : Thread Cert.UpReferenceIdeal.nD Cert.UpReferenceIdeal.τ).loc Cert.UpReferenceIdeal.main_arg3))
      (m' ((c.tc : Thread Cert.UpReferenceIdeal.nD Cert.UpReferenceIdeal.τ).loc Cert.UpReferenceIdeal.main_arg4)) n)
  rw [a0, a1, a2, a3, a4]

end Cert.Swiglu

end
-- ==== Proof.Swiglu.DownRun.lean ====
/- One run of the `down` call's body at any grid point: what its stores leave in the output block and in the three scratch
   buffers, each a function of the blocks the windows hold and of what the scratch held before. The four conditionals stay
   conditional in these functions; `DownStep.lean` reads them. -/
module

public import proofs.«01_k».proof.Proof.Gen.DownIdeal.Frame
public import proofs.«01_k».proof.Proof.Gen.DownIdeal.Skeleton

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE RUN: the contents the body leaves in the output block and in the three scratch buffers, with the proof that it leaves them
    and leaves the input blocks as they were. -/
noncomputable def bodyRun (c : Dev nD) (i : grid0.Coords) (arg3 : Memref sig .tc .vmem S1024x3072 .bf16) (harg3 : arg3.IsWhole) (arg4 : Memref sig .tc .vmem S512x1536 .i8) (harg4 : arg4.IsWhole) (arg5 : Memref sig .tc .vmem S512x576 .i16) (harg5 : arg5.IsWhole) (arg6 : Memref sig .tc .vmem S1024x512 .bf16) (harg6 : arg6.IsWhole) (arg7 : Memref sig .tc .vmem S6x3072x512 .bf16) (harg7 : arg7.IsWhole) (arg8 : Memref sig .tc .vmem S576x512 .f32) (harg8 : arg8.IsWhole) (arg9 : Memref sig .tc .vmem S1024x512 .f32) (harg9 : arg9.IsWhole)
    (x : Vec F S1024x3072 .bf16) (q : Vec F S512x1536 .i8) (z : Vec F S512x576 .i16) (y : Vec F S1024x512 .bf16)
    (w : Vec F S6x3072x512 .bf16) (s : Vec F S576x512 .f32) (acc : Vec F S1024x512 .f32) :
    Σ' (C6 : arg6.view.ty.Contents (Elt F)) (C7 : arg7.view.ty.Contents (Elt F)) (C8 : arg8.view.ty.Contents (Elt F)),
      { C9 : arg9.view.ty.Contents (Elt F) // ∀ (E : Set ℕ) (K : PUnit → sProp 𝕄),
        iprop(owns (c : Thread nD τ) arg3 fullShare x ∗ owns (c : Thread nD τ) arg4 fullShare q ∗ owns (c : Thread nD τ) arg5 fullShare z ∗ owns (c : Thread nD τ) arg6 fullShare y
            ∗ owns (c : Thread nD τ) arg7 fullShare w ∗ owns (c : Thread nD τ) arg8 fullShare s ∗ owns (c : Thread nD τ) arg9 fullShare acc
            ∗ (iprop(owns (c : Thread nD τ) arg3 fullShare x ∗ owns (c : Thread nD τ) arg4 fullShare q ∗ owns (c : Thread nD τ) arg5 fullShare z
                ∗ (arg6.view.loc (c : Thread nD τ) ↦[arg6.view.set]{fullShare} C6) ∗ (arg7.view.loc (c : Thread nD τ) ↦[arg7.view.set]{fullShare} C7)
                ∗ (arg8.view.loc (c : Thread nD τ) ↦[arg8.view.set]{fullShare} C8) ∗ (arg9.view.loc (c : Thread nD τ) ↦[arg9.view.set]{fullShare} C9)) -∗ K ⟨⟩))
          ⊢ wp frame (wpE (defs₀ (F := F)) Variants.none c none) E (cc0_down i arg3 harg3 arg4 harg4 arg5 harg5 arg6 harg6 arg7 harg7 arg8 harg8 arg9 harg9) K } := by
  refine ⟨?_, ?_, ?_, ?_, fun E K => ?run⟩
  case run =>
    simp only [cc0_down_eq_skeleton]; unfold cc0_down_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    isplitl [H4]; · iexact H4
    isplitl [H5]; · iexact H5
    iexact H6

end Cert.DownIdeal.Gen

end
-- ==== Proof.Swiglu.DownStep.lean ====
/- What one grid point of the `down` call does, as plain functions: at the first row block and first slice it decodes the
   scales of its column block; at every slice of the first row block it unpacks the slice's twelve weight tiles into the
   weight scratch; at every point it adds a product to the accumulator, which it clears at the first slice and writes
   out at the last. -/
module

public import proofs.«01_k».proof.Proof.Swiglu.DownRun
public import proofs.«01_k».proof.Proof.Swiglu.Tile
public import Idealize.ShloMosaic.Lib.WholeRead
public import Idealize.ShloMosaic.Lib.WritesUnit
public import Idealize.ShloMosaic.Lib.ValueLayout

@[expose] public section

set_option maxRecDepth 16384

noncomputable section

namespace Cert.DownIdeal.Gen

open Idealize.ShloMosaic Idealize.ShloMosaic.TcCoe Idealize.ShloMosaic.Tactic
open Cert.Swiglu

variable {F : FTy → Type} [FloatOps F]

theorem idx_lt0 {n0 n1 : ℕ} (j : (⟨2, ![n0, n1]⟩ : Shape).Idx) : (j 0).val < n0 := (j 0).isLt
theorem idx_lt1 {n0 n1 : ℕ} (j : (⟨2, ![n0, n1]⟩ : Shape).Idx) : (j 1).val < n1 := (j 1).isLt

/-- A store of the whole shape is read back. -/
theorem read_full {S : Shape} {e : EltTy} {sp : Space} (v : View sig .tc sp S e) (f : v.ty.Contents (Elt F)) {off : Fin S.rank → ℕ}
    (h : off = fun _ => 0) (inb : ∀ a, off a + S.size a ≤ S.size a) (p : S.Idx → Elt F e) (L : List (View.Piece (Elt F) S e)) :
    v.read (Elt F) (v.writes (Elt F) f (⟨Rect.unit off S.size inb, p⟩ :: L)) = p :=
  funext fun y => View.read_writes_cons_unit_of_mem v f inb p L y y h fun _ => (Nat.zero_add _).symm

theorem tileFacts : TileFacts 512 where
  tr := transposes_S512x128_p1_0_S128x512
  dn := bitcasts_S128x512_w16_S64x512_w32
  up := bitcasts_S64x512_w32_S128x512_w16
  sl := by decide
  sc := by decide
  br := broadcasts_S1x512_S16x512
  cc := concatenates_S16x512_S16x512_S16x512_S16x512_S16x512_S16x512_S16x512_S16x512_S16x512_S16x512_S16x512_S16x512_S16x512_S16x512_S16x512_S16x512_S256x512_d0

/-! ## The conditions -/

/-- The point decodes the scales: row block 0, slice 0. -/
abbrev condScale (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The point clears the accumulator: slice 0. -/
abbrev condClear (i : grid0.Coords) : Prop :=
  Scalar.cmpi .ne (Scalar.extui (Scalar.cmpi .eq (BitVec.ofNat 32 (i 2).val) 0#32)) 0#32 = 1#1

theorem condScale_iff : ∀ i : grid0.Coords, condScale i ↔ (i 1).val = 0 ∧ (i 2).val = 0 := by decide +kernel
theorem condClear_iff : ∀ i : grid0.Coords, condClear i ↔ (i 2).val = 0 := by decide +kernel
theorem cond2_iff : ∀ i : grid0.Coords, k0_cond2 i = 1#1 ↔ (i 1).val = 0 := by decide +kernel
theorem cond4_iff : ∀ i : grid0.Coords, k0_cond4 i = 1#1 ↔ (i 2).val = 5 := by decide +kernel

/-! ## The step as functions -/

/-- The codes of tile `b` of a slice. -/
def qOf (q : Vec F S512x1536 .i8) (b : Fin 12) : Vec F S512x128 .i8 :=
  fun j => q (ix2 (j 0) ⟨128 * b.val + (j 1).val, by have := idx_lt1 j; omega⟩)

/-- The scales of tile `b` of slice `k`. -/
def sOf (s : Vec F S576x512 .f32) (k : Fin 6) (b : Fin 12) : Vec F S8x512 .f32 :=
  fun j => s (ix2 ⟨96 * k.val + 8 * b.val + (j 0).val, by have := idx_lt0 j; omega⟩ (j 1))

/-- The weights of slice `k`: twelve tiles one under another. -/
def slab (q : Vec F S512x1536 .i8) (s : Vec F S576x512 .f32) (k : Fin 6) (a : Fin 3072) (r : Fin 512) : Elt F .bf16 :=
  tile (F := F) tileFacts (qOf q ⟨a.val / 256, by omega⟩) (sOf s k ⟨a.val / 256, by omega⟩) (ix2 ⟨a.val % 256, by omega⟩ r)

/-- The scale scratch after the point. -/
def sNext (i : grid0.Coords) (z : Vec F S512x576 .i16) (s : Vec F S576x512 .f32) : Vec F S576x512 .f32 :=
  if (i 1).val = 0 ∧ (i 2).val = 0 then k0_pay1 z else s

/-- The weight scratch after the point, `s` the scales it uses. -/
def wNext (i : grid0.Coords) (q : Vec F S512x1536 .i8) (s : Vec F S576x512 .f32) (w : Vec F S6x3072x512 .bf16) : Vec F S6x3072x512 .bf16 :=
  fun y => if (i 1).val = 0 ∧ (y 0).val = (i 2).val then slab q s (i 2) (y 1) (y 2) else w y

/-- The slice of the weight scratch that the point multiplies by. -/
def slice (i : grid0.Coords) (w : Vec F S6x3072x512 .bf16) : Vec F S1x3072x512 .bf16 :=
  fun j => w (ix3 (i 2) (j 1) (j 2))

/-- The accumulator after the point, `w` the weight scratch it uses. -/
def accNext (i : grid0.Coords) (x : Vec F S1024x3072 .bf16) (w : Vec F S6x3072x512 .bf16) (acc : Vec F S1024x512 .f32) : Vec F S1024x512 .f32 :=
  k0_pay4 (if (i 2).val = 0 then k0_pay3 else acc) x (slice i w)

/-! ## The run's contents are these -/

/-- Where the point stores tile `b`. -/
def offW (i : grid0.Coords) : Fin 12 → Fin 3 → ℕ
  | ⟨0, _⟩ => k0_off2 i
  | ⟨1, _⟩ => k0_off3 i
  | ⟨2, _⟩ => k0_off4 i
  | ⟨3, _⟩ => k0_off5 i
  | ⟨4, _⟩ => k0_off6 i
  | ⟨5, _⟩ => k0_off7 i
  | ⟨6, _⟩ => k0_off8 i
  | ⟨7, _⟩ => k0_off9 i
  | ⟨8, _⟩ => k0_off10 i
  | ⟨9, _⟩ => k0_off11 i
  | ⟨10, _⟩ => k0_off12 i
  | ⟨11, _⟩ => k0_off13 i

theorem offW_eq (i : grid0.Coords) (b : Fin 12) : offW i b = ![(i 2).val, 256 * b.val, 0] := by
  fin_cases b
  · exact k0_off2_eq i
  · exact k0_off3_eq i
  · exact k0_off4_eq i
  · exact k0_off5_eq i
  · exact k0_off6_eq i
  · exact k0_off7_eq i
  · exact k0_off8_eq i
  · exact k0_off9_eq i
  · exact k0_off10_eq i
  · exact k0_off11_eq i
  · exact k0_off12_eq i
  · exact k0_off13_eq i

theorem inbW (i : grid0.Coords) (b : Fin 12) : ∀ a : Fin 3, offW i b a + S1x256x512.size a ≤ S6x3072x512.size a := by
  have h2 : (i 2).val < 6 := (i 2).isLt
  rw [offW_eq]
  intro a; fin_cases a
  · show (i 2).val + 1 ≤ 6; omega
  · show 256 * b.val + 256 ≤ 3072; omega
  · show 0 + 512 ≤ 512; omega

theorem inbQ (b : Fin 12) : ∀ a : Fin 2, (![0, 128 * b.val] : Fin 2 → ℕ) a + S512x128.size a ≤ S512x1536.size a := by
  intro a; fin_cases a
  · show 0 + 512 ≤ 512; omega
  · show 128 * b.val + 128 ≤ 1536; omega

theorem inbS (i : grid0.Coords) (b : Fin 12) : ∀ a : Fin 2, k0_off1 i (BitVec.ofNat 32 (8 * b.val)) a + S8x512.size a ≤ S576x512.size a := by
  have h2 : (i 2).val < 6 := (i 2).isLt
  rw [k0_off1_eq]
  intro a; fin_cases a
  · show 96 * (i 2).val + 8 * b.val + 8 ≤ 576; omega
  · show 0 + 512 ≤ 512; omega

section Contents

variable (c : Dev nD) (i : grid0.Coords) (arg3 : Memref sig .tc .vmem S1024x3072 .bf16) (harg3 : arg3.IsWhole) (arg4 : Memref sig .tc .vmem S512x1536 .i8) (harg4 : arg4.IsWhole) (arg5 : Memref sig .tc .vmem S512x576 .i16) (harg5 : arg5.IsWhole) (arg6 : Memref sig .tc .vmem S1024x512 .bf16) (harg6 : arg6.IsWhole) (arg7 : Memref sig .tc .vmem S6x3072x512 .bf16) (harg7 : arg7.IsWhole) (arg8 : Memref sig .tc .vmem S576x512 .f32) (harg8 : arg8.IsWhole) (arg9 : Memref sig .tc .vmem S1024x512 .f32) (harg9 : arg9.IsWhole)
    (x : Vec F S1024x3072 .bf16) (q : Vec F S512x1536 .i8) (z : Vec F S512x576 .i16) (y : Vec F S1024x512 .bf16)
    (w : Vec F S6x3072x512 .bf16) (s : Vec F S576x512 .f32) (acc : Vec F S1024x512 .f32)

/-- The scale scratch's contents after the run. -/
def raw8 : arg8.view.ty.Contents (Elt F) :=
  if hc : condScale i then
    arg8.view.writes (Elt F) (harg8.unread s) [⟨Rect.unit (s := S576x512) ![0, 0] S576x512.size inb_S576x512_S576x512_0_0,
      k0_pay1 (View.readAt (Elt F) arg5.view (Rect.unit (s := S512x576) ![0, 0] S512x576.size inb_S512x576_S512x576_0_0).toLoadRect (harg5.unread z))⟩]
  else harg8.unread s

theorem run8_eq : (bodyRun c i arg3 harg3 arg4 harg4 arg5 harg5 arg6 harg6 arg7 harg7 arg8 harg8 arg9 harg9 x q z y w s acc).2.2.1 = raw8 i arg5 harg5 arg8 harg8 z s := by sl_kernel_rfl

theorem read8 : arg8.view.read (Elt F) (raw8 i arg5 harg5 arg8 harg8 z s) = sNext i z s := by
  unfold raw8 sNext
  simp only [← condScale_iff]
  split
  · rw [View.readAt_eq_ld, harg5.read_unread, View.ld_unit_zero (by funext a; fin_cases a <;> rfl)]
    exact read_full _ _ (by funext a; fin_cases a <;> rfl) _ _ _
  · exact harg8.read_unread s

/-- Tile `b` as the run stores it. -/
def piece (b : Fin 12) : View.Piece (Elt F) S6x3072x512 .bf16 :=
  ⟨Rect.unit (s := S6x3072x512) (offW i b) S1x256x512.size (inbW i b),
    shapeCast S1x256x512 (tile (F := F) tileFacts
      (View.readAt (Elt F) arg4.view (Rect.unit (s := S512x1536) ![0, 128 * b.val] S512x128.size (inbQ b)).toLoadRect (harg4.unread q))
      (View.readAt (Elt F) arg8.view (Rect.unit (s := S576x512) (k0_off1 i (BitVec.ofNat 32 (8 * b.val))) S8x512.size (inbS i b)).toLoadRect
        (raw8 i arg5 harg5 arg8 harg8 z s))) shapeCasts_S256x512_S1x256x512⟩

/-- The first `n` tiles, last first. -/
def pieces (P : Fin 12 → View.Piece (Elt F) S6x3072x512 .bf16) : (n : ℕ) → n ≤ 12 → List (View.Piece (Elt F) S6x3072x512 .bf16)
  | 0, _ => []
  | n + 1, h => P ⟨n, h⟩ :: pieces P n (Nat.le_of_succ_le h)

theorem mem_pieces (P : Fin 12 → View.Piece (Elt F) S6x3072x512 .bf16) (p : View.Piece (Elt F) S6x3072x512 .bf16) :
    ∀ (n : ℕ) (h : n ≤ 12), p ∈ pieces P n h ↔ ∃ b : Fin 12, b.val < n ∧ p = P b
  | 0, _ => by simp [pieces]
  | n + 1, h => by
    unfold pieces
    rw [List.mem_cons, mem_pieces P p n]
    constructor
    · rintro (rfl | ⟨b, hb, rfl⟩)
      · exact ⟨⟨n, h⟩, Nat.lt_succ_self n, rfl⟩
      · exact ⟨b, by omega, rfl⟩
    · rintro ⟨b, hb, rfl⟩
      by_cases e : b.val = n
      · exact Or.inl (congrArg P (Fin.ext e))
      · exact Or.inr ⟨b, by omega, rfl⟩

/-- The weight scratch's contents after the run. -/
def raw7 : arg7.view.ty.Contents (Elt F) :=
  if hc : k0_cond2 i = 1#1 then
    arg7.view.writes (Elt F) (harg7.unread w) (pieces (piece i arg4 harg4 arg5 harg5 arg8 harg8 q z s) 12 le_rfl)
  else harg7.unread w

theorem run7_eq : (bodyRun c i arg3 harg3 arg4 harg4 arg5 harg5 arg6 harg6 arg7 harg7 arg8 harg8 arg9 harg9 x q z y w s acc).2.1 = raw7 i arg4 harg4 arg5 harg5 arg7 harg7 arg8 harg8 q z w s := by sl_kernel_rfl

/-- A stored tile is a part of the slice's weights. -/
theorem piece_apply (h1 : (i 1).val = 0) (b : Fin 12) (j : (piece i arg4 harg4 arg5 harg5 arg8 harg8 q z s b).1.shape.Idx) :
    (piece i arg4 harg4 arg5 harg5 arg8 harg8 q z s b).2 j
      = wNext i q (sNext i z s) w ((piece i arg4 harg4 arg5 harg5 arg8 harg8 q z s b).1.emb j) := by
  have j0 : (j 0).val < 1 := (j 0).isLt
  have j1 : (j 1).val < 256 := (j 1).isLt
  have o := offW_eq i b
  have o0 : offW i b 0 = (i 2).val := congrFun o 0
  have o1 : offW i b 1 = 256 * b.val := congrFun o 1
  have o2 : offW i b 2 = 0 := congrFun o 2
  have e0 : ((piece i arg4 harg4 arg5 harg5 arg8 harg8 q z s b).1.emb j 0).val = (i 2).val := by
    show offW i b 0 + 1 * (j 0).val = _; omega
  have e1 : ((piece i arg4 harg4 arg5 harg5 arg8 harg8 q z s b).1.emb j 1).val = 256 * b.val + (j 1).val := by
    show offW i b 1 + 1 * (j 1).val = _; omega
  have e2 : ((piece i arg4 harg4 arg5 harg5 arg8 harg8 q z s b).1.emb j 2).val = (j 2).val := by
    show offW i b 2 + 1 * (j 2).val = _; omega
  unfold wNext
  rw [if_pos ⟨h1, e0⟩]
  unfold slab
  have hb : (⟨((piece i arg4 harg4 arg5 harg5 arg8 harg8 q z s b).1.emb j 1).val / 256, by rw [e1]; omega⟩ : Fin 12) = b :=
    Fin.ext (by show ((piece i arg4 harg4 arg5 harg5 arg8 harg8 q z s b).1.emb j 1).val / 256 = b.val; omega)
  rw [hb]
  have hq : View.readAt (Elt F) arg4.view (Rect.unit (s := S512x1536) ![0, 128 * b.val] S512x128.size (inbQ b)).toLoadRect (harg4.unread q) = qOf q b := by
    funext a
    rw [harg4.readAt_unread]
    refine congrArg q (funext fun k => Fin.ext ?_)
    fin_cases k
    · show 0 + 1 * (a 0).val = (a 0).val; omega
    · show 128 * b.val + 1 * (a 1).val = 128 * b.val + (a 1).val; omega
  have hs : View.readAt (Elt F) arg8.view (Rect.unit (s := S576x512) (k0_off1 i (BitVec.ofNat 32 (8 * b.val))) S8x512.size (inbS i b)).toLoadRect
        (raw8 i arg5 harg5 arg8 harg8 z s) = sOf (sNext i z s) (i 2) b := by
    rw [View.readAt_eq_ld, read8]
    funext a
    refine congrArg (sNext i z s) (funext fun k => Fin.ext ?_)
    have f := k0_off1_eq i b
    have f0 : k0_off1 i (BitVec.ofNat 32 (8 * b.val)) 0 = 96 * (i 2).val + 8 * b.val := congrFun f 0
    have f1 : k0_off1 i (BitVec.ofNat 32 (8 * b.val)) 1 = 0 := congrFun f 1
    fin_cases k
    · show k0_off1 i (BitVec.ofNat 32 (8 * b.val)) 0 + 1 * (a 0).val = 96 * (i 2).val + 8 * b.val + (a 0).val; omega
    · show k0_off1 i (BitVec.ofNat 32 (8 * b.val)) 1 + 1 * (a 1).val = (a 1).val; omega
  unfold piece
  dsimp only
  rw [hq, hs]
  generalize tile (F := F) tileFacts (qOf q b) (sOf (sNext i z s) (i 2) b) = T
  refine (shapeCast_addUnit_apply ![256, 512] T _ j).trans (congrArg T (funext fun a => Fin.ext ?_))
  match a with
  | ⟨0, _⟩ => show (j 1).val = ((piece i arg4 harg4 arg5 harg5 arg8 harg8 q z s b).1.emb j 1).val % 256; omega
  | ⟨1, _⟩ => exact e2.symm

theorem read7 : arg7.view.read (Elt F) (raw7 i arg4 harg4 arg5 harg5 arg7 harg7 arg8 harg8 q z w s) = wNext i q (sNext i z s) w := by
  unfold raw7
  split
  case isTrue h2 =>
    have h1 := (cond2_iff i).1 h2
    funext y
    have y0 : (y 0).val < 6 := (y 0).isLt
    have y1 : (y 1).val < 3072 := (y 1).isLt
    have y2 : (y 2).val < 512 := (y 2).isLt
    have hmem : ∀ b : Fin 12, y ∈ (piece i arg4 harg4 arg5 harg5 arg8 harg8 q z s b).1.set ↔ ((y 0).val = (i 2).val ∧ (y 1).val / 256 = b.val) := by
      intro b
      have o := offW_eq i b
      have o0 : offW i b 0 = (i 2).val := congrFun o 0
      have o1 : offW i b 1 = 256 * b.val := congrFun o 1
      have o2 : offW i b 2 = 0 := congrFun o 2
      show y ∈ (Rect.unit (s := S6x3072x512) (offW i b) S1x256x512.size (inbW i b)).set ↔ _
      rw [Rect.mem_set_unit]
      refine ⟨fun h => ?_, fun h a => ?_⟩
      · have a0 : offW i b 0 ≤ (y 0).val ∧ (y 0).val < offW i b 0 + 1 := h 0
        have a1 : offW i b 1 ≤ (y 1).val ∧ (y 1).val < offW i b 1 + 256 := h 1
        omega
      · match a with
        | ⟨0, _⟩ => show offW i b 0 ≤ (y 0).val ∧ (y 0).val < offW i b 0 + 1; omega
        | ⟨1, _⟩ => show offW i b 1 ≤ (y 1).val ∧ (y 1).val < offW i b 1 + 256; omega
        | ⟨2, _⟩ => show offW i b 2 ≤ (y 2).val ∧ (y 2).val < offW i b 2 + 512; omega
    by_cases hy : (y 0).val = (i 2).val
    · refine View.read_writes_apply_of_pieces _ _ (wNext i q (sNext i z s) w) _ (fun p hp j => ?_) y
        ⟨_, (mem_pieces _ _ _ _).2 ⟨⟨(y 1).val / 256, by omega⟩, by show (y 1).val / 256 < 12; omega, rfl⟩, (hmem _).2 ⟨hy, rfl⟩⟩
      obtain ⟨b, -, rfl⟩ := (mem_pieces _ _ _ _).1 hp
      exact piece_apply i arg4 harg4 arg5 harg5 arg8 harg8 q z w s h1 b j
    · rw [View.read_writes_apply_of_forall_not_mem _ _ y _ (fun p hp hm => ?_), harg7.read_unread]
      · unfold wNext
        rw [if_neg fun h => hy h.2]
      · obtain ⟨b, -, rfl⟩ := (mem_pieces _ _ _ _).1 hp
        exact hy ((hmem b).1 hm).1
  case isFalse h2 =>
    rw [harg7.read_unread]
    funext y
    unfold wNext
    rw [if_neg fun h => h2 ((cond2_iff i).2 h.1)]

/-- The accumulator's contents when the product is added. -/
def raw9a : arg9.view.ty.Contents (Elt F) :=
  if hc : condClear i then
    arg9.view.writes (Elt F) (harg9.unread acc) [⟨Rect.unit (s := S1024x512) ![0, 0] S1024x512.size inb_S1024x512_S1024x512_0_0, k0_pay3⟩]
  else harg9.unread acc

theorem read9a : arg9.view.read (Elt F) (raw9a i arg9 harg9 acc) = if (i 2).val = 0 then k0_pay3 else acc := by
  unfold raw9a
  simp only [← condClear_iff]
  split
  · exact read_full _ _ (by funext a; fin_cases a <;> rfl) _ _ _
  · exact harg9.read_unread acc

/-- The sum the run stores in the accumulator. -/
def sum9 : Vec F S1024x512 .f32 :=
  k0_pay4 (View.readAt (Elt F) arg9.view (Rect.unit (s := S1024x512) ![0, 0] S1024x512.size inb_S1024x512_S1024x512_0_0).toLoadRect (raw9a i arg9 harg9 acc))
    (View.readAt (Elt F) arg3.view (Rect.unit (s := S1024x3072) ![0, 0] S1024x3072.size inb_S1024x3072_S1024x3072_0_0).toLoadRect (harg3.unread x))
    (View.readAt (Elt F) arg7.view (Rect.unit (s := S6x3072x512) (k0_off14 i) S1x3072x512.size (k0_off14_inb i)).toLoadRect
      (raw7 i arg4 harg4 arg5 harg5 arg7 harg7 arg8 harg8 q z w s))

theorem sum9_eq : sum9 i arg3 harg3 arg4 harg4 arg5 harg5 arg7 harg7 arg8 harg8 arg9 harg9 x q z w s acc
    = accNext i x (wNext i q (sNext i z s) w) acc := by
  unfold sum9 accNext
  rw [View.readAt_eq_ld, View.readAt_eq_ld, View.readAt_eq_ld, read9a, read7, harg3.read_unread,
    View.ld_unit_zero (by funext a; fin_cases a <;> rfl), View.ld_unit_zero (by funext a; fin_cases a <;> rfl)]
  congr 1
  funext j
  have j0 : (j 0).val < 1 := (j 0).isLt
  refine congrArg (wNext i q (sNext i z s) w) (funext fun a => Fin.ext ?_)
  have o := k0_off14_eq i
  have o0 : k0_off14 i 0 = (i 2).val := congrFun o 0
  have o1 : k0_off14 i 1 = 0 := congrFun o 1
  have o2 : k0_off14 i 2 = 0 := congrFun o 2
  match a with
  | ⟨0, _⟩ => show k0_off14 i 0 + 1 * (j 0).val = (i 2).val; omega
  | ⟨1, _⟩ => show k0_off14 i 1 + 1 * (j 1).val = (j 1).val; omega
  | ⟨2, _⟩ => show k0_off14 i 2 + 1 * (j 2).val = (j 2).val; omega

/-- The accumulator's contents after the run. -/
def raw9 : arg9.view.ty.Contents (Elt F) :=
  arg9.view.writes (Elt F) (raw9a i arg9 harg9 acc) [⟨Rect.unit (s := S1024x512) ![0, 0] S1024x512.size inb_S1024x512_S1024x512_0_0,
    sum9 i arg3 harg3 arg4 harg4 arg5 harg5 arg7 harg7 arg8 harg8 arg9 harg9 x q z w s acc⟩]

theorem run9_eq : (bodyRun c i arg3 harg3 arg4 harg4 arg5 harg5 arg6 harg6 arg7 harg7 arg8 harg8 arg9 harg9 x q z y w s acc).2.2.2.1
    = raw9 i arg3 harg3 arg4 harg4 arg5 harg5 arg7 harg7 arg8 harg8 arg9 harg9 x q z w s acc := by sl_kernel_rfl

theorem read9 : arg9.view.read (Elt F) (raw9 i arg3 harg3 arg4 harg4 arg5 harg5 arg7 harg7 arg8 harg8 arg9 harg9 x q z w s acc)
    = accNext i x (wNext i q (sNext i z s) w) acc :=
  (read_full _ _ (by funext a; fin_cases a <;> rfl) _ _ _).trans (sum9_eq ..)

/-- The output block's contents after the run. -/
def raw6 : arg6.view.ty.Contents (Elt F) :=
  if hc : k0_cond4 i = 1#1 then
    arg6.view.writes (Elt F) (harg6.unread y) [⟨Rect.unit (s := S1024x512) ![0, 0] S1024x512.size inb_S1024x512_S1024x512_0_0,
      k0_pay5 (arg9.view.readCov [⟨Rect.unit (s := S1024x512) ![0, 0] S1024x512.size inb_S1024x512_S1024x512_0_0,
          sum9 i arg3 harg3 arg4 harg4 arg5 harg5 arg7 harg7 arg8 harg8 arg9 harg9 x q z w s acc⟩]
        (Rect.unit (s := S1024x512) ![0, 0] S1024x512.size inb_S1024x512_S1024x512_0_0).toLoadRect)⟩]
  else harg6.unread y

theorem run6_eq : (bodyRun c i arg3 harg3 arg4 harg4 arg5 harg5 arg6 harg6 arg7 harg7 arg8 harg8 arg9 harg9 x q z y w s acc).1
    = raw6 i arg3 harg3 arg4 harg4 arg5 harg5 arg6 harg6 arg7 harg7 arg8 harg8 arg9 harg9 x q z y w s acc := by sl_kernel_rfl

theorem read6 : arg6.view.read (Elt F) (raw6 i arg3 harg3 arg4 harg4 arg5 harg5 arg6 harg6 arg7 harg7 arg8 harg8 arg9 harg9 x q z y w s acc)
    = if (i 2).val = 5 then k0_pay5 (accNext i x (wNext i q (sNext i z s) w) acc) else y := by
  unfold raw6
  simp only [← cond4_iff]
  split
  · rw [View.readCov_unit_zero _ (by funext a; fin_cases a <;> rfl), sum9_eq]
    exact read_full _ _ (by funext a; fin_cases a <;> rfl) _ _ _
  · exact harg6.read_unread y

end Contents

/-! ## The body's triple -/

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt F) ℕ (UR sig nD τ) ℕ

/-- THE STEP: the body at any point, from the blocks its windows hold and what the scratch holds, to the same blocks, the
    scratch as the step's functions say, and the output block written at the last slice and untouched otherwise. -/
theorem body_step (c : Dev nD) (i : grid0.Coords) (arg3 : Memref sig .tc .vmem S1024x3072 .bf16) (harg3 : arg3.IsWhole) (arg4 : Memref sig .tc .vmem S512x1536 .i8) (harg4 : arg4.IsWhole) (arg5 : Memref sig .tc .vmem S512x576 .i16) (harg5 : arg5.IsWhole) (arg6 : Memref sig .tc .vmem S1024x512 .bf16) (harg6 : arg6.IsWhole) (arg7 : Memref sig .tc .vmem S6x3072x512 .bf16) (harg7 : arg7.IsWhole) (arg8 : Memref sig .tc .vmem S576x512 .f32) (harg8 : arg8.IsWhole) (arg9 : Memref sig .tc .vmem S1024x512 .f32) (harg9 : arg9.IsWhole)
    (x : Vec F S1024x3072 .bf16) (q : Vec F S512x1536 .i8) (z : Vec F S512x576 .i16) (y : Vec F S1024x512 .bf16)
    (w : Vec F S6x3072x512 .bf16) (s : Vec F S576x512 .f32) (acc : Vec F S1024x512 .f32) (E : Set ℕ) (K : PUnit → sProp 𝕄) :
    iprop(owns (c : Thread nD τ) arg3 fullShare x ∗ owns (c : Thread nD τ) arg4 fullShare q ∗ owns (c : Thread nD τ) arg5 fullShare z ∗ owns (c : Thread nD τ) arg6 fullShare y
        ∗ owns (c : Thread nD τ) arg7 fullShare w ∗ owns (c : Thread nD τ) arg8 fullShare s ∗ owns (c : Thread nD τ) arg9 fullShare acc
        ∗ (iprop(owns (c : Thread nD τ) arg3 fullShare x ∗ owns (c : Thread nD τ) arg4 fullShare q ∗ owns (c : Thread nD τ) arg5 fullShare z
            ∗ owns (c : Thread nD τ) arg6 fullShare (if (i 2).val = 5 then k0_pay5 (accNext i x (wNext i q (sNext i z s) w) acc) else y)
            ∗ owns (c : Thread nD τ) arg7 fullShare (wNext i q (sNext i z s) w)
            ∗ owns (c : Thread nD τ) arg8 fullShare (sNext i z s)
            ∗ owns (c : Thread nD τ) arg9 fullShare (accNext i x (wNext i q (sNext i z s) w) acc)) -∗ K ⟨⟩))
      ⊢ wp frame (wpE (defs₀ (F := F)) Variants.none c none) E (cc0_down i arg3 harg3 arg4 harg4 arg5 harg5 arg6 harg6 arg7 harg7 arg8 harg8 arg9 harg9) K := by
  have e6 := run6_eq c i arg3 harg3 arg4 harg4 arg5 harg5 arg6 harg6 arg7 harg7 arg8 harg8 arg9 harg9 x q z y w s acc
  have e7 := run7_eq c i arg3 harg3 arg4 harg4 arg5 harg5 arg6 harg6 arg7 harg7 arg8 harg8 arg9 harg9 x q z y w s acc
  have e8 := run8_eq c i arg3 harg3 arg4 harg4 arg5 harg5 arg6 harg6 arg7 harg7 arg8 harg8 arg9 harg9 x q z y w s acc
  have e9 := run9_eq c i arg3 harg3 arg4 harg4 arg5 harg5 arg6 harg6 arg7 harg7 arg8 harg8 arg9 harg9 x q z y w s acc
  generalize bodyRun c i arg3 harg3 arg4 harg4 arg5 harg5 arg6 harg6 arg7 harg7 arg8 harg8 arg9 harg9 x q z y w s acc = r at e6 e7 e8 e9
  obtain ⟨C6, C7, C8, C9, h⟩ := r
  dsimp only at e6 e7 e8 e9
  subst e6 e7 e8 e9
  refine BIBase.Entails.trans ?_ (h E K)
  iintro ⟨H0, H1, H2, H3, H4, H5, H6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iexact H0
  isplitl [H1]; · iexact H1
  isplitl [H2]; · iexact H2
  isplitl [H3]
  · unfold owns; iexists _; isplitr; · ipureintro; exact read6 i arg3 harg3 arg4 harg4 arg5 harg5 arg6 harg6 arg7 harg7 arg8 harg8 arg9 harg9 x q z y w s acc
    iexact H3
  isplitl [H4]
  · unfold owns; iexists _; isplitr; · ipureintro; exact read7 i arg4 harg4 arg5 harg5 arg7 harg7 arg8 harg8 q z w s
    iexact H4
  isplitl [H5]
  · unfold owns; iexists _; isplitr; · ipureintro; exact read8 i arg5 harg5 arg8 harg8 z s
    iexact H5
  unfold owns; iexists _; isplitr; · ipureintro; exact read9 i arg3 harg3 arg4 harg4 arg5 harg5 arg7 harg7 arg8 harg8 arg9 harg9 x q z w s acc
  iexact H6

end Cert.DownIdeal.Gen

end
-- ==== Proof.Swiglu.DownFrame.lean ====
/- The frame of the `down` call: what the three scratch buffers hold after every grid point, the body's triple at every
   point, and the run of the whole program. Point `t` is column block `t / 18`, row block `t / 6 % 3`, slice `t % 6`. -/
module

public import proofs.«01_k».proof.Proof.Swiglu.DownStep
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Points and their coordinates -/

theorem pt_lt (t : Fin cfg0.N) : t.val < 252 := lt_of_lt_of_eq t.isLt N_0

/-- Point number `n`. -/
def ptN (n : ℕ) : Fin cfg0.N := ⟨n % 252, lt_of_lt_of_eq (Nat.mod_lt _ (by decide)) N_0.symm⟩

theorem ptN_eq (t : Fin cfg0.N) (n : ℕ) (h : n = t.val) : ptN n = t :=
  Fin.ext (by have := pt_lt t; show n % 252 = t.val; omega)

theorem coord0 (t : Fin cfg0.N) : (grid0.coords t 0).val = t.val / 18 :=
  (Pipeline.Grid.coords_val t 0 (by decide) rfl : (grid0.coords t 0).val = t.val / 18 % 14).trans (by have := pt_lt t; omega)
theorem coord1 (t : Fin cfg0.N) : (grid0.coords t 1).val = t.val / 6 % 3 := Pipeline.Grid.coords_val t 1 (by decide) rfl
theorem coord2 (t : Fin cfg0.N) : (grid0.coords t 2).val = t.val % 6 :=
  (Pipeline.Grid.coords_val t 2 (by decide) rfl : (grid0.coords t 2).val = t.val / 1 % 6).trans (by omega)

/-! ## What the scratch holds -/

/-- The decoded scales of column block `n`. -/
def scalesAt (c : Dev nD) (n : ℕ) : Vec F S576x512 .f32 := k0_pay1 (iblk m c 2 (ptN (18 * n)))

/-- The weights of slice `k` of column block `n`: its codes are the window's at the first row block. -/
def slabAt (c : Dev nD) (n k : ℕ) : Vec F S1x3072x512 .bf16 :=
  fun j => slab (iblk m c 1 (ptN (18 * n + k))) (scalesAt m c n) ⟨k % 6, Nat.mod_lt _ (by decide)⟩ (j 1) (j 2)

/-- The accumulator of row block `b`, column block `n` after slice `k`. -/
def accAt (c : Dev nD) (n b : ℕ) : ℕ → Vec F S1024x512 .f32
  | 0 => k0_pay4 k0_pay3 (iblk m c 0 (ptN (18 * n + 6 * b + 0))) (slabAt m c n 0)
  | k + 1 => k0_pay4 (accAt c n b k) (iblk m c 0 (ptN (18 * n + 6 * b + (k + 1)))) (slabAt m c n (k + 1))

/-- What holds of the scratch after point `t`: the scales are the column block's; a slice of the weight scratch is the column
    block's when it has been unpacked, that is at once up to the point's slice in the first row block and always in the later
    ones; the accumulator is the sum up to the point's slice. -/
def Inv (c : Dev nD) (t : ℕ) (w : Vec F S6x3072x512 .bf16) (s : Vec F S576x512 .f32) (acc : Vec F S1024x512 .f32) : Prop :=
  s = scalesAt m c (t / 18)
  ∧ (∀ k : Fin 6, (t / 6 % 3 ≠ 0 ∨ k.val ≤ t % 6) → ∀ j : S1x3072x512.Idx, w (ix3 k (j 1) (j 2)) = slabAt m c (t / 18) k.val j)
  ∧ acc = accAt m c (t / 18) (t / 6 % 3) (t % 6)

theorem wNext_pos (i : grid0.Coords) (q : Vec F S512x1536 .i8) (s : Vec F S576x512 .f32) (w : Vec F S6x3072x512 .bf16) (k : Fin 6) (a : Fin 3072) (r : Fin 512)
    (h : (i 1).val = 0 ∧ k.val = (i 2).val) : wNext i q s w (ix3 k a r) = slab q s (i 2) a r := if_pos h
theorem wNext_neg (i : grid0.Coords) (q : Vec F S512x1536 .i8) (s : Vec F S576x512 .f32) (w : Vec F S6x3072x512 .bf16) (k : Fin 6) (a : Fin 3072) (r : Fin 512)
    (h : ¬((i 1).val = 0 ∧ k.val = (i 2).val)) : wNext i q s w (ix3 k a r) = w (ix3 k a r) := if_neg h

/-- One point keeps it. -/
theorem Inv_step (c : Dev nD) (t : Fin cfg0.N) (w : Vec F S6x3072x512 .bf16) (s : Vec F S576x512 .f32) (acc : Vec F S1024x512 .f32)
    (h : t.val ≠ 0 → Inv m c (t.val - 1) w s acc) :
    Inv m c t.val (wNext (grid0.coords t) (iblk m c 1 t) (sNext (grid0.coords t) (iblk m c 2 t) s) w)
      (sNext (grid0.coords t) (iblk m c 2 t) s)
      (accNext (grid0.coords t) (iblk m c 0 t) (wNext (grid0.coords t) (iblk m c 1 t) (sNext (grid0.coords t) (iblk m c 2 t) s) w) acc) := by
  have ht := pt_lt t
  have c1 := coord1 t
  have c2 := coord2 t
  have hs : sNext (grid0.coords t) (iblk m c 2 t) s = scalesAt m c (t.val / 18) := by
    unfold sNext
    split
    case isTrue h0 =>
      unfold scalesAt
      rw [ptN_eq t _ (by omega)]
    case isFalse h0 =>
      obtain ⟨e, -, -⟩ := h (by intro e; apply h0; omega)
      rw [e]
      exact congrArg (scalesAt m c) (by omega)
  rw [hs]
  have hw : ∀ k : Fin 6, (t.val / 6 % 3 ≠ 0 ∨ k.val ≤ t.val % 6) → ∀ j : S1x3072x512.Idx,
      wNext (grid0.coords t) (iblk m c 1 t) (scalesAt m c (t.val / 18)) w (ix3 k (j 1) (j 2)) = slabAt m c (t.val / 18) k.val j := by
    intro k hk j
    by_cases h0 : (grid0.coords t 1).val = 0 ∧ k.val = (grid0.coords t 2).val
    · refine (wNext_pos _ _ _ _ k (j 1) (j 2) h0).trans ?_
      unfold slabAt
      rw [ptN_eq t _ (by omega)]
      have e : (grid0.coords t 2 : Fin 6) = ⟨k.val % 6, Nat.mod_lt _ (by decide)⟩ := Fin.ext (by show (grid0.coords t 2).val = k.val % 6; omega)
      rw [e]
      rfl
    · refine (wNext_neg _ _ _ _ k (j 1) (j 2) h0).trans ?_
      obtain ⟨-, e, -⟩ := h (by intro e; apply h0; have := k.isLt; omega)
      have d : (t.val - 1) / 18 = t.val / 18 := by have := k.isLt; omega
      rw [e k (by have := k.isLt; omega) j, d]
  refine ⟨rfl, hw, ?_⟩
  have e : slice (grid0.coords t) (wNext (grid0.coords t) (iblk m c 1 t) (scalesAt m c (t.val / 18)) w) = slabAt m c (t.val / 18) (t.val % 6) := by
    funext j
    refine (hw (grid0.coords t 2) (Or.inr (by omega)) j).trans ?_
    rw [c2]
  unfold accNext
  rw [e]
  by_cases h0 : (grid0.coords t 2).val = 0
  · rw [if_pos h0, show t.val % 6 = 0 by omega]
    show _ = k0_pay4 k0_pay3 (iblk m c 0 (ptN (18 * (t.val / 18) + 6 * (t.val / 6 % 3) + 0))) (slabAt m c (t.val / 18) 0)
    rw [ptN_eq t _ (by omega)]
  · rw [if_neg h0]
    obtain ⟨-, -, a⟩ := h (by intro e; apply h0; omega)
    obtain ⟨k, hk⟩ : ∃ k, t.val % 6 = k + 1 := ⟨t.val % 6 - 1, by omega⟩
    rw [a, hk, show (t.val - 1) / 18 = t.val / 18 by omega, show (t.val - 1) / 6 % 3 = t.val / 6 % 3 by omega, show (t.val - 1) % 6 = k by omega]
    show _ = k0_pay4 (accAt m c (t.val / 18) (t.val / 6 % 3) k) (iblk m c 0 (ptN (18 * (t.val / 18) + 6 * (t.val / 6 % 3) + (k + 1)))) (slabAt m c (t.val / 18) (k + 1))
    rw [ptN_eq t _ (by omega)]

/-! ## The pipeline's proof data -/

/-- Each window's current staging memref at point `t`, and the scratch operands. -/
abbrev ms0_0 (t : Fin cfg0.N) : Memref sig .tc .vmem S1024x3072 .bf16 := win0_0.stage (cfg0.slots t 0)
abbrev ms0_1 (t : Fin cfg0.N) : Memref sig .tc .vmem S512x1536 .i8 := win0_1.stage (cfg0.slots t 1)
abbrev ms0_2 (t : Fin cfg0.N) : Memref sig .tc .vmem S512x576 .i16 := win0_2.stage (cfg0.slots t 2)
abbrev ms0_3 (t : Fin cfg0.N) : Memref sig .tc .vmem S1024x512 .bf16 := win0_3.stage (cfg0.slots t 3)
abbrev scM0_0 : Memref sig .tc .vmem S6x3072x512 .bf16 := Memref.whole cc0_scratch0
abbrev scM0_1 : Memref sig .tc .vmem S576x512 .f32 := Memref.whole cc0_scratch1
abbrev scM0_2 : Memref sig .tc .vmem S1024x512 .f32 := Memref.whole cc0_scratch2

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: the scratch at contents of which, after the first point, `Inv` holds. -/
def PhiS (c : Dev nD) (n : ℕ) : sProp 𝕄 :=
  iprop(∃ w, ∃ s, ∃ acc, ⌜n ≠ 0 → Inv m c (n - 1) w s acc⌝ ∗ owns (c : Thread nD τ) scM0_0 fullShare w
    ∗ owns (c : Thread nD τ) scM0_1 fullShare s ∗ owns (c : Thread nD τ) scM0_2 fullShare acc ∗ (∃ r, prngReg c r))

/-- What the last slice of a row and column block writes out. -/
def outAt (c : Dev nD) (t : ℕ) : Vec F S1024x512 .bf16 := k0_pay5 (accAt m c (t / 18) (t / 6 % 3) (t % 6))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- The output window is left alone exactly off the last slice. -/
theorem idle3 (t : Fin cfg0.N) : cfg0.idle 3 (cfg0.grid.coords t) = !decide (t.val % 6 = 5) := by
  have e : cfg0.idle 3 (cfg0.grid.coords t) = !(k0_cond4 (grid0.coords t) == 1#1) := rfl
  rw [e]
  congr 1
  have h := cond4_iff (grid0.coords t)
  rw [coord2 t] at h
  by_cases h5 : t.val % 6 = 5
  · rw [h.2 h5]; simp [h5]
  · have := mt h.1 h5
    simp [h5, this]

theorem flush3 (t : Fin cfg0.N) : (cfg0.win 3).flush t = decide (t.val % 6 = 5) := by
  have h := flush0_3 t
  by_cases h5 : t.val % 6 = 5
  · rw [h.2 h5]; simp [h5]
  · have := mt h.1 h5
    simp [h5, this]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (match cfg0.idle 3 (cfg0.grid.coords t) with
      | true =>
        match (cfg0.win 3).flush t with
        | false => iprop(∃ d, owns (c : Thread nD τ) (ms0_3 t) fullShare ((dats m 0 c).before 3 t d))
        | true => owns (c : Thread nD τ) (ms0_3 t) fullShare ((dats m 0 c).after 3 t)
      | false => owns (c : Thread nD τ) (ms0_3 t) fullShare ((dats m 0 c).after 3 t)))

/-- The output window's part of it, from what the step leaves. -/
theorem post3 (c : Dev nD) (t : Fin cfg0.N) (d) (acc : Vec F S1024x512 .f32) (h : acc = accAt m c (t.val / 18) (t.val / 6 % 3) (t.val % 6)) :
    (owns (c : Thread nD τ) (ms0_3 t) fullShare (if (grid0.coords t 2).val = 5 then k0_pay5 acc else (dats m 0 c).before 3 t d) : sProp 𝕄)
      ⊢ (match cfg0.idle 3 (cfg0.grid.coords t) with
      | true =>
        match (cfg0.win 3).flush t with
        | false => iprop(∃ d, owns (c : Thread nD τ) (ms0_3 t) fullShare ((dats m 0 c).before 3 t d))
        | true => owns (c : Thread nD τ) (ms0_3 t) fullShare ((dats m 0 c).after 3 t)
      | false => owns (c : Thread nD τ) (ms0_3 t) fullShare ((dats m 0 c).after 3 t)) := by
  rw [idle3, flush3, coord2, h, after0_3]
  by_cases h5 : t.val % 6 = 5
  · rw [if_pos h5]
    simp only [h5, decide_true, Bool.not_true]
    unfold outAt
    rw [h5]
  · rw [if_neg h5]
    simp only [h5, decide_false, Bool.not_false]
    iintro H
    iexists _
    iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2]
  rw [show (dats m 0 c).Φ t.succ = PhiS m c (t.val + 1) from rfl, show (dats m 0 c).Φ t.castSucc = PhiS m c t.val from rfl]
  unfold PhiS
  iintro ⟨⟨%w, %s, %acc, %hI, HS0, HS1, HS2, Hg⟩, Ho, ⟨%d0, H0⟩, ⟨%d1, H1⟩, ⟨%d2, H2⟩, ⟨%d3, H3⟩⟩
  have hI' := Inv_step m c t w s acc hI
  iapply (body_step c (grid0.coords t) _ _ _ _ _ _ _ _ _ _ _ _ _ _ (iblk m c 0 t) (iblk m c 1 t) (iblk m c 2 t) ((dats m 0 c).before 3 t d3) w s acc Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · iexists _; iexists _; iexists _
    isplitr
    · ipureintro; exact fun _ => hI'
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  iapply (post3 m c t d3 _ hI'.2.2)
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%w, HS0⟩, ⟨%s, HS1⟩, ⟨%acc, HS2⟩⟩, Hg⟩
  iexists w; iexists s; iexists acc
  isplitr
  · ipureintro; exact fun h => absurd rfl h
  isplitl [HS0]; · iexact HS0
  isplitl [HS1]; · iexact HS1
  isplitl [HS2]; · iexact HS2
  iexact Hg

/-- The invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%w, %s, %acc, %hI, HS0, HS1, HS2, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- The launch: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.DownIdeal.Gen

end
-- ==== Proof.Swiglu.DownOut.lean ====
/- What the array `y` holds after the run of the `down` call: the block at rows `1024 b …` and columns `512 n …` is what the
   last slice of row block `b` and column block `n` writes out. -/
module

public import proofs.«01_k».proof.Proof.Swiglu.DownFrame
public import Idealize.ShloMosaic.Lib.Pipeline.Value

@[expose] public section

set_option maxRecDepth 16384

noncomputable section

namespace Cert.DownIdeal.Gen

open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- Where point `t`'s blocks are. -/
theorem idx_all : ∀ t : Fin cfg0.N, (win0_0.index t (0 : Fin 2) = t.val / 6 % 3 ∧ win0_0.index t (1 : Fin 2) = t.val % 6)
    ∧ (win0_1.index t (0 : Fin 2) = t.val / 18 ∧ (t.val / 6 % 3 = 0 → win0_1.index t (1 : Fin 2) = t.val % 6))
    ∧ (win0_2.index t (0 : Fin 2) = t.val / 18 ∧ win0_2.index t (1 : Fin 2) = 0)
    ∧ (win0_3.index t (0 : Fin 2) = t.val / 6 % 3 ∧ win0_3.index t (1 : Fin 2) = t.val / 18) :=
  (by decide +kernel : ∀ t : Fin grid0.N, _)

/-- THE ARRAY `y`. -/
def Y (c : Dev nD) : Buf (Elt F) ((c : Thread nD τ).loc main_v0) := fun i =>
  k0_pay5 (accAt m c ((i 1).val / 512) ((i 0).val / 1024) 5)
    (ix2 ⟨(i 0).val % 1024, Nat.mod_lt _ (by decide)⟩ ⟨(i 1).val % 512, Nat.mod_lt _ (by decide)⟩)

/-- What a point writes back is its block of `Y`. -/
theorem flushed3_eq (c : Dev nD) (t : Fin cfg0.N) (hf : (cfg0.win 3).flush t = true) :
    (dats m 0 c).flushed 3 t = ((cfg0.win 3).blk t).view.read (Elt F) (Y m c) := by
  have h5 := (flush0_3 t).1 hf
  obtain ⟨-, -, -, e0, e1⟩ := idx_all t
  show (cfg0.win 3).cut (grid0.coords t) ((dats m 0 c).after 3 t) = _
  rw [after0_3]
  funext y
  have hy0 : (y 0).val < 1024 := (y 0).isLt
  have hy1 : (y 1).val < 512 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 512 + 1 * (y 1).val := rfl
  show outAt m c t.val ((cfg0.win 3).xinj (grid0.coords t) y) = Y m c (((cfg0.win 3).blk t).view.emb y)
  unfold outAt Y
  rw [h5, show (((cfg0.win 3).blk t).view.emb y 1).val / 512 = t.val / 18 by omega,
    show (((cfg0.win 3).blk t).view.emb y 0).val / 1024 = t.val / 6 % 3 by omega]
  refine congrArg _ (funext fun a => Fin.ext ?_)
  match a with
  | ⟨0, _⟩ => show (y 0).val = (((cfg0.win 3).blk t).view.emb y 0).val % 1024; omega
  | ⟨1, _⟩ => show (y 1).val = (((cfg0.win 3).blk t).view.emb y 1).val % 512; omega

/-- The written blocks tile the array. -/
theorem cover3 (i : S3072x7168.Idx) : ∃ t : Fin cfg0.N, (cfg0.win 3).flush t = true ∧ i ∈ ((cfg0.win 3).blk t).view.set := by
  have hi0 : (i 0).val < 3072 := (i 0).isLt
  have hi1 : (i 1).val < 7168 := (i 1).isLt
  have hp : (ptN (18 * ((i 1).val / 512) + 6 * ((i 0).val / 1024) + 5)).val = 18 * ((i 1).val / 512) + 6 * ((i 0).val / 1024) + 5 :=
    Nat.mod_eq_of_lt (by omega)
  refine ⟨ptN (18 * ((i 1).val / 512) + 6 * ((i 0).val / 1024) + 5), (flush0_3 _).2 (by omega), ?_⟩
  obtain ⟨-, -, -, e0, e1⟩ := idx_all (ptN (18 * ((i 1).val / 512) + 6 * ((i 0).val / 1024) + 5))
  generalize ptN (18 * ((i 1).val / 512) + 6 * ((i 0).val / 1024) + 5) = t at hp e0 e1 ⊢
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

theorem final3 (c : Dev nD) : (dats m 0 c).arrAt 3 cfg0.N = Y m c :=
  (dats m 0 c).arrAt_eq_of_cover 3 _ (fun t hf => flushed3_eq m c t hf) (fun i => cover3 i)

/-- THE RUN: `y` ends at `Y`, the arguments unchanged. -/
theorem run : θ_run defs (onTc (τ := τ) (main (F := F))) ⟨m, fun _ => 0, ρ⟩ (fun r => ∀ c : Dev nD,
      r.2.mem ((c.tc : Thread nD τ).loc main_v0) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), h.2 c⟩)
    (θ_run_and (run_main m ρ) (frame_of m ρ (dats m) (A_eq m) (run_main m ρ)))

end Cert.DownIdeal.Gen

end
-- ==== Proof.Swiglu.DownKernel.lean ====
/- What the `down` kernel computes over the extended reals: every entry of `y` is the product of a row of `h` with a row of
   weights, summed slice by slice. -/
module

public import proofs.«01_k».proof.Proof.Swiglu.DownOut
public import proofs.«01_k».proof.Proof.Swiglu.Spec
public import Idealize.ShloMosaic.Lib.Pointwise

@[expose] public section

set_option maxRecDepth 16384

noncomputable section

namespace Cert.DownIdeal.Value

open Idealize.ShloMosaic Idealize.ShloMosaic.TcCoe Idealize.ShloMosaic.Tactic
open Cert.DownIdeal.Gen Cert.Swiglu
open scoped BigOperators

/-- The decoded scales are the numbers the words denote, transposed. -/
theorem scales_apply (w : Vec Ideal S512x576 .i16) (g : Fin 576) (r : Fin 512) :
    k0_pay1 (F := Ideal) w (ix2 g r) = f16 (w (ix2 r g)) := by
  have e : transpose (α := BitVec 16) S576x512 [1, 0] w transposes_S512x576_p1_0_S576x512 (ix2 g r) = w (ix2 r g) := by
    simp only [pointwise]
  refine Eq.trans ?_ (kScale_eq (w (ix2 r g)))
  rw [← e]
  unfold k0_pay1
  rw [shapeCast_self]
  generalize transpose (α := BitVec 16) S576x512 [1, 0] w transposes_S512x576_p1_0_S576x512 = y
  rfl

/-- One slice's product, added to what was there. -/
theorem pay4_apply (acc : Vec Ideal S1024x512 .f32) (x : Vec Ideal S1024x3072 .bf16) (w : Vec Ideal S1x3072x512 .bf16) (r : Fin 1024) (n : Fin 512) :
    k0_pay4 (F := Ideal) acc x w (ix2 r n) = acc (ix2 r n) + ∑ a : Fin 3072, x (ix2 r a) * w (ix3 0 a n) := by
  have ew : ∀ a : Fin 3072, shapeCast S3072x512 w shapeCasts_S1x3072x512_S3072x512 (ix2 a n) = w (ix3 0 a n) := fun a =>
    shapeCast_apply _ _ (ix2 a n) (ix3 0 a n) (by
      rw [Shape.rowMajor_val_two, Shape.rowMajor_val_three]
      show (0 * 3072 + a.val) * 512 + n.val = a.val * 512 + n.val
      omega)
  simp only [← ew]
  unfold k0_pay4
  rw [shapeCast_self]
  generalize shapeCast S3072x512 w shapeCasts_S1x3072x512_S3072x512 = v
  have key : matmul (F := Ideal) (φ₁ := .bf16) (φ₂ := .bf16) dot_S1024x3072_S3072x512_S1024x512_1_0_0_1_n_n none x v (constant S1024x512 .f32 0x00000000#32) (ix2 r n)
      = ∑ a : Fin 3072, x (ix2 r a) * v (ix2 a n) := by
    simp only [pointwise]
    rw [zero_add]
  rw [← key]
  rfl

/-- The cleared accumulator is zero. -/
theorem pay3_apply (r : Fin 1024) (n : Fin 512) : k0_pay3 (F := Ideal) (ix2 r n) = 0 := by
  unfold k0_pay3
  rw [shapeCast_self]
  simp only [pointwise]

variable (m : (ℓ : Loc nD τ sig) → Buf (Elt Ideal) ℓ)

/-- The arguments: `h`, the codes, the scales. -/
abbrev H (c : Dev nD) : Vec Ideal S3072x18432 .bf16 := m ((c : Thread nD τ).loc main_arg0)
abbrev Q (c : Dev nD) : Vec Ideal S7168x9216 .i8 := m ((c : Thread nD τ).loc main_arg1)
abbrev S (c : Dev nD) : Vec Ideal S7168x576 .i16 := m ((c : Thread nD τ).loc main_arg2)

theorem ptN_val (n : ℕ) (h : n < 252) : (ptN n).val = n := Nat.mod_eq_of_lt h

/-- Where the blocks of column block `n`, row block `b`, slice `k` sit in the arguments. -/
theorem h_block (c : Dev nD) (n b k : ℕ) (hn : n < 14) (hb : b < 3) (hk : k < 6) (r : Fin 1024) (a : Fin 3072) :
    iblk m c 0 (ptN (18 * n + 6 * b + k)) (ix2 r a) = H m c (ix2 ⟨1024 * b + r.val, by omega⟩ ⟨3072 * k + a.val, by omega⟩) := by
  have hp := ptN_val (18 * n + 6 * b + k) (by omega)
  obtain ⟨⟨e0, e1⟩, -⟩ := idx_all (ptN (18 * n + 6 * b + k))
  generalize ptN (18 * n + 6 * b + k) = t at hp e0 e1 ⊢
  refine congrArg (V m c main_arg0) (funext fun d => Fin.ext ?_)
  match d with
  | ⟨0, _⟩ => show win0_0.index t (0 : Fin 2) * 1024 + 1 * r.val = 1024 * b + r.val; omega
  | ⟨1, _⟩ => show win0_0.index t (1 : Fin 2) * 3072 + 1 * a.val = 3072 * k + a.val; omega

theorem q_block (c : Dev nD) (n k : ℕ) (hn : n < 14) (hk : k < 6) (r : Fin 512) (a : Fin 1536) :
    iblk m c 1 (ptN (18 * n + k)) (ix2 r a) = Q m c (ix2 ⟨512 * n + r.val, by omega⟩ ⟨1536 * k + a.val, by omega⟩) := by
  have hp := ptN_val (18 * n + k) (by omega)
  obtain ⟨-, ⟨e0, e1⟩, -⟩ := idx_all (ptN (18 * n + k))
  generalize ptN (18 * n + k) = t at hp e0 e1 ⊢
  have e1' := e1 (by omega)
  refine congrArg (V m c main_arg1) (funext fun d => Fin.ext ?_)
  match d with
  | ⟨0, _⟩ => show win0_1.index t (0 : Fin 2) * 512 + 1 * r.val = 512 * n + r.val; omega
  | ⟨1, _⟩ => show win0_1.index t (1 : Fin 2) * 1536 + 1 * a.val = 1536 * k + a.val; omega

theorem s_block (c : Dev nD) (n : ℕ) (hn : n < 14) (r : Fin 512) (g : Fin 576) :
    iblk m c 2 (ptN (18 * n)) (ix2 r g) = S m c (ix2 ⟨512 * n + r.val, by omega⟩ g) := by
  have hp := ptN_val (18 * n) (by omega)
  obtain ⟨-, -, ⟨e0, e1⟩, -⟩ := idx_all (ptN (18 * n))
  generalize ptN (18 * n) = t at hp e0 e1 ⊢
  refine congrArg (V m c main_arg2) (funext fun d => Fin.ext ?_)
  match d with
  | ⟨0, _⟩ => show win0_2.index t (0 : Fin 2) * 512 + 1 * r.val = 512 * n + r.val; omega
  | ⟨1, _⟩ => show win0_2.index t (1 : Fin 2) * 576 + 1 * g.val = g.val; omega

/-- The weights of slice `k` are the weights `3072 k …` of the column block's rows. -/
theorem slab_apply (c : Dev nD) (n k : ℕ) (hn : n < 14) (hk : k < 6) (a : Fin 3072) (q : Fin 512) :
    slabAt m c n k (ix3 0 a q)
      = wt (by norm_num : 2 * 9216 = 18432) (by norm_num : 32 * 576 = 18432) (Q m c) (S m c) ⟨512 * n + q.val, by omega⟩ ⟨3072 * k + a.val, by omega⟩ := by
  show tile (F := Ideal) tileFacts (qOf (iblk m c 1 (ptN (18 * n + k))) ⟨a.val / 256, by omega⟩)
    (sOf (scalesAt m c n) ⟨k % 6, Nat.mod_lt _ (by decide)⟩ ⟨a.val / 256, by omega⟩) (ix2 ⟨a.val % 256, by omega⟩ q) = _
  unfold wt
  rw [tile_apply]
  have e1 : qOf (F := Ideal) (iblk m c 1 (ptN (18 * n + k))) ⟨a.val / 256, by omega⟩ (ix2 q ⟨a.val % 256 / 32 * 16 + a.val % 256 % 16, by omega⟩)
      = Q m c (ix2 ⟨512 * n + q.val, by omega⟩ ⟨(3072 * k + a.val) / 32 * 16 + (3072 * k + a.val) % 16, by omega⟩) := by
    refine (q_block m c n k hn hk q ⟨128 * (a.val / 256) + (a.val % 256 / 32 * 16 + a.val % 256 % 16), by omega⟩).trans ?_
    refine congrArg (fun j => Q m c (ix2 _ j)) (Fin.ext ?_)
    show 1536 * k + (128 * (a.val / 256) + (a.val % 256 / 32 * 16 + a.val % 256 % 16)) = (3072 * k + a.val) / 32 * 16 + (3072 * k + a.val) % 16
    omega
  have e2 : sOf (F := Ideal) (scalesAt m c n) ⟨k % 6, Nat.mod_lt _ (by decide)⟩ ⟨a.val / 256, by omega⟩ (ix2 ⟨a.val % 256 / 32, by omega⟩ q)
      = f16 (S m c (ix2 ⟨512 * n + q.val, by omega⟩ ⟨(3072 * k + a.val) / 32, by omega⟩)) := by
    refine (scales_apply (iblk m c 2 (ptN (18 * n))) ⟨96 * (k % 6) + 8 * (a.val / 256) + a.val % 256 / 32, by omega⟩ q).trans ?_
    rw [s_block m c n hn]
    refine congrArg (fun j => f16 (S m c (ix2 _ j))) (Fin.ext ?_)
    show 96 * (k % 6) + 8 * (a.val / 256) + a.val % 256 / 32 = (3072 * k + a.val) / 32
    omega
  have e3 : a.val % 256 / 16 % 2 = (3072 * k + a.val) / 16 % 2 := by omega
  rw [e2]
  simp only [e3]
  rw [e1]

/-- A sum over a row, slice by slice. -/
theorem sum_slices (f : Fin 18432 → EReal) :
    ∑ i : Fin 18432, f i = ∑ k : Fin 6, ∑ a : Fin 3072, f ⟨3072 * k.val + a.val, by omega⟩ := by
  rw [show (∑ i : Fin 18432, f i) = ∑ i : Fin (6 * 3072), f i from rfl, ← finProdFinEquiv.sum_comp, Fintype.sum_prod_type]
  refine Finset.sum_congr rfl fun k _ => Finset.sum_congr rfl fun a _ => congrArg f (Fin.ext ?_)
  show a.val + 3072 * k.val = _
  exact Nat.add_comm _ _

/-- A term of the product. -/
abbrev term (c : Dev nD) (r : Fin 3072) (n : Fin 7168) (i : Fin 18432) : EReal :=
  H m c (ix2 r i) * wt (by norm_num : 2 * 9216 = 18432) (by norm_num : 32 * 576 = 18432) (Q m c) (S m c) n i

/-- One slice of the product, as the kernel adds it. -/
theorem slice_sum (c : Dev nD) (n b k : ℕ) (hn : n < 14) (hb : b < 3) (hk : k < 6) (r : Fin 1024) (q : Fin 512) :
    ∑ a : Fin 3072, (show Vec Ideal S1024x3072 .bf16 from iblk m c 0 (ptN (18 * n + 6 * b + k))) (ix2 r a) * slabAt m c n k (ix3 0 a q)
      = ∑ a : Fin 3072, term m c ⟨1024 * b + r.val, by omega⟩ ⟨512 * n + q.val, by omega⟩ ⟨3072 * k + a.val, by omega⟩ :=
  Finset.sum_congr rfl fun a _ => congrArg₂ (· * ·) (h_block m c n b k hn hb hk r a) (slab_apply m c n k hn hk a q)

/-- The accumulator after slice `k` is the sum of the slices so far. -/
theorem acc_apply (c : Dev nD) (n b : ℕ) (hn : n < 14) (hb : b < 3) (r : Fin 1024) (q : Fin 512) : ∀ (k : ℕ) (hk : k < 6),
    accAt m c n b k (ix2 r q) = ∑ j : Fin (k + 1), ∑ a : Fin 3072,
      term m c ⟨1024 * b + r.val, by omega⟩ ⟨512 * n + q.val, by omega⟩ ⟨3072 * j.val + a.val, by omega⟩
  | 0, hk => by
    show k0_pay4 (F := Ideal) (k0_pay3 (F := Ideal)) _ _ (ix2 r q) = _
    rw [pay4_apply, pay3_apply, zero_add, slice_sum m c n b 0 hn hb hk, Fin.sum_univ_one]
    rfl
  | k + 1, hk => by
    show k0_pay4 (F := Ideal) (accAt m c n b k) _ _ (ix2 r q) = _
    rw [pay4_apply, acc_apply c n b hn hb r q k (by omega), slice_sum m c n b (k + 1) hn hb hk]
    exact (Fin.sum_univ_castSucc fun j : Fin (k + 1 + 1) => ∑ a : Fin 3072,
      term m c ⟨1024 * b + r.val, by omega⟩ ⟨512 * n + q.val, by omega⟩ ⟨3072 * j.val + a.val, by omega⟩).symm

/-- THE KERNEL'S VALUE. -/
theorem y_apply (c : Dev nD) (r : Fin 3072) (n : Fin 7168) :
    Y (F := Ideal) m c (ix2 r n)
      = dot (by norm_num : 2 * 9216 = 18432) (by norm_num : 32 * 576 = 18432) (fun k => H m c (ix2 r k)) (Q m c) (S m c) n := by
  show accAt m c (n.val / 512) (r.val / 1024) 5 (ix2 ⟨r.val % 1024, Nat.mod_lt _ (by decide)⟩ ⟨n.val % 512, Nat.mod_lt _ (by decide)⟩) = _
  rw [acc_apply m c (n.val / 512) (r.val / 1024) (by omega) (by omega) _ _ 5 (by decide)]
  have er : (⟨1024 * (r.val / 1024) + r.val % 1024, by omega⟩ : Fin 3072) = r := Fin.ext (by show 1024 * (r.val / 1024) + r.val % 1024 = r.val; omega)
  have en : (⟨512 * (n.val / 512) + n.val % 512, by omega⟩ : Fin 7168) = n := Fin.ext (by show 512 * (n.val / 512) + n.val % 512 = n.val; omega)
  simp only [er, en]
  exact (sum_slices (term m c r n)).symm

end Cert.DownIdeal.Value

end
-- ==== Proof.Swiglu.DownRef.lean ====
/- What the reference of the `down` product computes over the extended reals: the sum over the low codes plus the sum over the
   high codes. -/
module

public import proofs.«01_k».proof.Proof.Gen.DownReferenceIdeal.Read
public import proofs.«01_k».proof.Proof.Swiglu.Spec
public import Idealize.ShloMosaic.Lib.Pointwise

@[expose] public section

set_option maxRecDepth 16384

noncomputable section

namespace Cert.DownReferenceIdeal.Value

open Idealize.ShloMosaic Idealize.ShloMosaic.TcCoe
open Cert.DownReferenceIdeal.Gen Cert.Swiglu Cert.DownReferenceIdeal.Read
open scoped BigOperators

variable (x0 : FVec Ideal S3072x18432 .bf16) (x1 : IVec S7168x9216 8) (x2 : IVec S7168x576 16)

/-- The decoded scales are the numbers the words denote. -/
theorem v38_eq (i : S7168x576.Idx) : val_main_v38 (F := Ideal) x2 i = f16 (x2 i) := by
  refine Eq.trans ?_ (rScale_eq (x2 i))
  rfl

theorem v1_ix (n : Fin 7168) (g : Fin 576) (j : Fin 16) :
    val_main_v1 (F := Ideal) x1 (ix3 n g j) = x1 (ix2 n ⟨16 * g.val + j.val, by omega⟩) := by
  rw [val_main_v1_apply]
  refine congrArg x1 (funext fun a => Fin.ext ?_)
  match a with
  | ⟨0, _⟩ => show ((n.val * 576 + g.val) * 16 + j.val) / 9216 = n.val; omega
  | ⟨1, _⟩ => show ((n.val * 576 + g.val) * 16 + j.val) % 9216 = 16 * g.val + j.val; omega

/-- The low weights. -/
theorem v47_ix (n : Fin 7168) (g : Fin 576) (j : Fin 16) :
    val_main_v47 (F := Ideal) x1 x2 (ix3 n g j)
      = (((code 0 (x1 (ix2 n ⟨16 * g.val + j.val, by omega⟩)) : ℝ) - 8 : ℝ) : EReal) * f16 (x2 (ix2 n g)) := by
  rw [← v1_ix x1 n g j, ← v38_eq x2 (ix2 n g), ← ref_lo]
  show _ * val_main_v45 (F := Ideal) x2 (ix3 n g j) = _
  have e : idx_main_v44 (idx_main_v45 (ix3 n g j)) = ix2 n g := by
    funext a
    match a with
    | ⟨0, _⟩ => rfl
    | ⟨1, _⟩ => rfl
  rw [val_main_v45_apply, val_main_v44_apply, e]
  rfl

/-- The high weights. -/
theorem v56_ix (n : Fin 7168) (g : Fin 576) (j : Fin 16) :
    val_main_v56 (F := Ideal) x1 x2 (ix3 n g j)
      = (((code 1 (x1 (ix2 n ⟨16 * g.val + j.val, by omega⟩)) : ℝ) - 8 : ℝ) : EReal) * f16 (x2 (ix2 n g)) := by
  rw [← v1_ix x1 n g j, ← v38_eq x2 (ix2 n g), ← ref_hi]
  show _ * val_main_v54 (F := Ideal) x2 (ix3 n g j) = _
  have e : idx_main_v53 (idx_main_v54 (ix3 n g j)) = ix2 n g := by
    funext a
    match a with
    | ⟨0, _⟩ => rfl
    | ⟨1, _⟩ => rfl
  rw [val_main_v54_apply, val_main_v53_apply, e]
  rfl

/-- The rows of `h` with a unit axis between. -/
theorem v0_ix (r : Fin 3072) (k : Fin 18432) : val_main_v0 (F := Ideal) x0 (ix3 r 0 k) = x0 (ix2 r k) := by
  rw [val_main_v0_apply]
  refine congrArg x0 (funext fun a => Fin.ext ?_)
  match a with
  | ⟨0, _⟩ => show _ / _ = r.val; simp; omega
  | ⟨1, _⟩ => show _ % _ = k.val; simp <;> omega

/-- The first half of each group of a row of `h`. -/
theorem v59_ix (r : Fin 3072) (g : Fin 576) (j : Fin 16) :
    val_main_v59 (F := Ideal) x0 (ix4 r 0 g j) = x0 (ix2 r ⟨32 * g.val + j.val, by omega⟩) := by
  rw [← v0_ix x0 r, val_main_v59_apply, val_main_v58_apply, val_main_v57_apply]
  refine congrArg (val_main_v0 (F := Ideal) x0) (funext fun a => Fin.ext ?_)
  match a with
  | ⟨0, _⟩ => show _ / _ = r.val; simp; omega
  | ⟨1, _⟩ => rfl
  | ⟨2, _⟩ => show _ % _ = 32 * g.val + j.val; simp; omega

/-- The last half of each group. -/
theorem v62_ix (r : Fin 3072) (g : Fin 576) (j : Fin 16) :
    val_main_v62 (F := Ideal) x0 (ix4 r 0 g j) = x0 (ix2 r ⟨32 * g.val + (16 + j.val), by omega⟩) := by
  rw [← v0_ix x0 r, val_main_v62_apply, val_main_v61_apply, val_main_v57_apply]
  refine congrArg (val_main_v0 (F := Ideal) x0) (funext fun a => Fin.ext ?_)
  match a with
  | ⟨0, _⟩ => show _ / _ = r.val; simp; omega
  | ⟨1, _⟩ => rfl
  | ⟨2, _⟩ => show _ % _ = 32 * g.val + (16 + j.val); simp; omega

/-- A product contracted over groups and places. -/
theorem dot_ix (A : FVec Ideal S3072x1x576x16 .bf16) (B : FVec Ideal S7168x576x16 .bf16) (r : Fin 3072) (n : Fin 7168) :
    Host.dotGeneral dot_S3072x1x576x16_S7168x576x16_S3072x1x7168_23_12_01_0_n_n none A B (ix3 r 0 n)
      = ∑ g : Fin 576, ∑ j : Fin 16, A (ix4 r 0 g j) * B (ix3 n g j) := by
  simp only [pointwise]
  rw [zero_add]

/-- THE REFERENCE'S VALUE. -/
theorem y_apply (r : Fin 3072) (n : Fin 7168) :
    val_main_v66 (F := Ideal) x0 x1 x2 (ix2 r n)
      = dot (by norm_num : 2 * 9216 = 18432) (by norm_num : 32 * 576 = 18432) (fun k => x0 (ix2 r k)) x1 x2 n := by
  rw [val_main_v66_apply]
  have e : idx_main_v66 (ix2 r n) = ix3 r 0 n := by
    funext a
    apply Fin.ext
    match a with
    | ⟨0, _⟩ => show (r.val * 7168 + n.val) / 7168 = r.val; omega
    | ⟨1, _⟩ => rfl
    | ⟨2, _⟩ => show (r.val * 7168 + n.val) % 7168 = n.val; omega
  rw [e, val_main_v65_apply, val_main_v64_apply, dot_split]
  unfold val_main_v60 val_main_v63
  rw [dot_ix, dot_ix]
  simp only [v59_ix, v62_ix, v47_ix, v56_ix]
  rfl

end Cert.DownReferenceIdeal.Value

end
-- ==== Proof.Swiglu.DownClaims.lean ====
/- The claims about the `down` product: the frames of the kernel and of its reference, and that both compute the same array. -/
module

public import proofs.«01_k».proof.Defs
public import proofs.«01_k».proof.Proof.Gen.Down
public import proofs.«01_k».proof.Proof.Swiglu.DownKernel
public import proofs.«01_k».proof.Proof.Swiglu.DownRef

@[expose] public section

set_option maxRecDepth 16384

noncomputable section

namespace Cert.Swiglu

open Idealize.ShloMosaic Idealize.SL.Sem

theorem downIdeal_frame : Cert.quiescent_DownIdeal (hDownIdeal := Cert.DownIdeal.Gen.facts) :=
  fun m ρ _ => Cert.DownIdeal.Gen.frame m ρ

/-- `FrameAt F`: the kernel's frame at floats `F`, as the module printed for the extended reals states it, -/
def FrameAt (F : FTy → Type) [FloatOps F] : Prop :=
  ∀ (m : (ℓ : Loc Cert.DownIdeal.nD Cert.DownIdeal.τ Cert.DownIdeal.sig) → Buf (Elt F) ℓ) (ρ : Dev Cert.DownIdeal.nD → PrngReg),
    θ_run (@Cert.DownIdeal.defs F _ Cert.DownIdeal.Gen.facts) (onTc (τ := Cert.DownIdeal.τ) (Cert.DownIdeal.main (F := F))) ⟨m, fun _ => 0, ρ⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

/-- and as the module printed for machine words states it. -/
def FrameAt' (F : FTy → Type) [FloatOps F] : Prop :=
  ∀ (m : (ℓ : Loc Cert.Down.nD Cert.Down.τ Cert.Down.sig) → Buf (Elt F) ℓ) (ρ : Dev Cert.Down.nD → PrngReg),
    θ_run (@Cert.Down.defs F _ Cert.Down.Gen.facts) (onTc (τ := Cert.Down.τ) (Cert.Down.main (F := F))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

/-- The two modules print the same program, so the two statements are one. -/
theorem frameAt_eq (F : FTy → Type) [FloatOps F] : FrameAt' F = FrameAt F := by sl_kernel_rfl

/-- The frame at machine words: the one proved for any floats. -/
theorem down_frame : Cert.quiescent_Down (hDown := Cert.Down.Gen.facts) := fun m ρ _ =>
  ((frameAt_eq Bits).symm ▸ (fun m ρ => Cert.DownIdeal.Gen.frame m ρ : FrameAt Bits) : FrameAt' Bits) m ρ

/-- The reference runs, leaves its arguments unchanged, and has no semaphores. -/
theorem downRef_frame : Cert.quiescent_DownReferenceIdeal (hDownReferenceIdeal := Cert.DownReferenceIdeal.Gen.facts) := fun m ρ _ =>
  (θ_run _ _ _).mono (fun r h => ⟨fun c => (h c).2, sem_eq_zero_of_no_sems (by decide) r.2⟩) (Cert.DownReferenceIdeal.Value.run m ρ)

/-- THE DOWN PRODUCT: kernel and reference end with the same array, over the extended reals. -/
theorem down_algebraic : Cert.algebraic_DownIdeal_DownReferenceIdeal (hDownIdeal := Cert.DownIdeal.Gen.facts)
    (hDownReferenceIdeal := Cert.DownReferenceIdeal.Gen.facts) := by
  intro m g m' g' _ harg
  refine ⟨fun c => Cert.DownIdeal.Gen.Y m c, Cert.DownIdeal.Gen.run m g, ?_⟩
  refine (θ_run _ _ _).mono (fun r h c => ⟨?_, (h c).2⟩) (Cert.DownReferenceIdeal.Value.run m' g')
  obtain ⟨a0, a1, a2⟩ := harg c
  refine (h c).1.trans ((Cert.DownReferenceIdeal.Read.val_main_v66_eq m' c).trans ?_)
  funext i
  obtain ⟨r, n, rfl⟩ : ∃ (r : Fin 3072) (n : Fin 7168), i = ix2 r n := ⟨i 0, i 1, (ix2_eta i).symm⟩
  refine (Cert.DownReferenceIdeal.Value.y_apply _ _ _ r n).trans ((Cert.DownIdeal.Value.y_apply m c r n).trans ?_).symm
  rw [a0, a1, a2]

end Cert.Swiglu

end
-- ==== Proof.lean ====
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Gen.UpIdeal.Value
public import proofs.«01_k».proof.Proof.Gen.UpReferenceIdeal.Read
public import proofs.«01_k».proof.Proof.Gen.Down
public import proofs.«01_k».proof.Proof.Gen.Down.Frame
public import proofs.«01_k».proof.Proof.Gen.Down.Skeleton
public import proofs.«01_k».proof.Proof.Gen.Down.Launch
public import proofs.«01_k».proof.Proof.Gen.Down.Points
public import proofs.«01_k».proof.Proof.Gen.DownIdeal
public import proofs.«01_k».proof.Proof.Gen.DownIdeal.Frame
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownReferenceIdeal
public import proofs.«01_k».proof.Proof.Gen.DownReferenceIdeal.Read
public import proofs.«01_k».proof.Proof.Swiglu.UpClaims
public import proofs.«01_k».proof.Proof.Swiglu.DownClaims

@[expose] public section

noncomputable section

namespace Cert.Proof

open Idealize.ShloMosaic Idealize.SL.Sem Cert.Up

/-- Every claim of the certificate. -/
theorem claim : Cert.Claim := ⟨Cert.Up.Gen.facts, Cert.UpIdeal.Gen.facts, Cert.UpReferenceIdeal.Gen.facts,
  Cert.Down.Gen.facts, Cert.DownIdeal.Gen.facts, Cert.DownReferenceIdeal.Gen.facts,
  fun m ρ _ => Cert.Up.Gen.frame m ρ, fun m ρ _ => Cert.UpIdeal.Gen.frame m ρ, Cert.Swiglu.upRef_frame,
  Cert.Swiglu.down_frame, Cert.Swiglu.downIdeal_frame, Cert.Swiglu.downRef_frame,
  trivial, Cert.Swiglu.up_algebraic, trivial, Cert.Swiglu.down_algebraic⟩

end Cert.Proof

end
